-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled [hPre_finite_and_labelled : Cert.Pre_finite_and_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labelled [hPre_finite_and_labelled : Cert.Pre_finite_and_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_and_labelled [hKernelIdeal : Cert.KernelIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_and_labelled [hReferenceIdeal : Cert.ReferenceIdeal.Facts] [hPre_finite_and_labelled : Cert.Pre_finite_and_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_and_labelled [hKernelIdeal : Cert.KernelIdeal.Facts] [hReferenceIdeal : Cert.ReferenceIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_and_labelled : Cert.Pre_finite_and_labelled.Facts),
    quiescent_Kernel (hKernel := hKernel)
    ∧ quiescent_KernelIdeal (hKernelIdeal := hKernelIdeal)
    ∧ quiescent_KernelIdeal_pre_finite_and_labelled (hKernelIdeal := hKernelIdeal) (hPre_finite_and_labelled := hPre_finite_and_labelled)
    ∧ quiescent_ReferenceIdeal (hReferenceIdeal := hReferenceIdeal)
    ∧ quiescent_ReferenceIdeal_pre_finite_and_labelled (hReferenceIdeal := hReferenceIdeal) (hPre_finite_and_labelled := hPre_finite_and_labelled)
    ∧ preserves_Kernel_KernelIdeal
    ∧ algebraic_KernelIdeal_ReferenceIdeal_pre_finite_and_labelled (hKernelIdeal := hKernelIdeal) (hReferenceIdeal := hReferenceIdeal) (hPre_finite_and_labelled := hPre_finite_and_labelled)
-- ==== Pre_finite_and_labelled.lean ====
abbrev S4x128x64x64 : Shape := ⟨4, ![4, 128, 64, 64]⟩
abbrev S4x1x64x64 : Shape := ⟨4, ![4, 1, 64, 64]⟩
abbrev S128x128 : Shape := ⟨2, ![128, 128]⟩
abbrev S128 : Shape := ⟨1, ![128]⟩
abbrev S_ : Shape := ⟨0, ![]⟩

class Facts : Prop where
  bcast_S_S4x128x64x64 : S_.BroadcastsInDim S4x128x64x64 (![] : Fin 0 → Fin S4x128x64x64.rank)
  bcast_S_S4x1x64x64 : S_.BroadcastsInDim S4x1x64x64 (![] : Fin 0 → Fin S4x1x64x64.rank)
  bcast_S_S128x128 : S_.BroadcastsInDim S128x128 (![] : Fin 0 → Fin S128x128.rank)
  bcast_S_S128 : S_.BroadcastsInDim S128 (![] : Fin 0 → Fin S128.rank)

variable [Facts]

def fn {F : FTy → Type} [FloatOps F] (main_arg0 : FVec F S4x128x64x64 .f32) (main_arg1 : IVec S4x1x64x64 32) (main_arg2 : FVec F S128x128 .f32) (main_arg3 : FVec F S128x128 .f32) (main_arg4 : FVec F S128 .f32) (main_arg5 : FVec F S128 .f32) : IVec S4x128x64x64 1 × IVec S4x1x64x64 1 × IVec S128x128 1 × IVec S128x128 1 × IVec S128 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 32 := constantI S_ 32 1#32
  let main_v3 : IVec S4x1x64x64 32 := broadcastInDim S4x1x64x64 ![] bcast_S_S4x1x64x64 main_c
  let main_v4 : IVec S4x1x64x64 1 := cmpi .sge main_arg1 main_v3
  let main_c_0 : IVec S_ 32 := constantI S_ 32 16#32
  let main_v5 : IVec S4x1x64x64 32 := broadcastInDim S4x1x64x64 ![] bcast_S_S4x1x64x64 main_c_0
  let main_v6 : IVec S4x1x64x64 1 := cmpi .sle main_arg1 main_v5
  let main_v7 : IVec S4x1x64x64 1 := andi main_v4 main_v6
  let main_v8 : FVec F S128x128 .f32 := Host.absf main_arg2
  let main_cst_1 : FVec F S_ .f32 := constant S_ .f32 0x7F800000#32
  let main_v9 : FVec F S128x128 .f32 := broadcastInDim S128x128 ![] bcast_S_S128x128 main_cst_1
  let main_v10 : IVec S128x128 1 := cmpf .olt main_v8 main_v9
  let main_v11 : FVec F S128x128 .f32 := Host.absf main_arg3
  let main_cst_2 : FVec F S_ .f32 := constant S_ .f32 0x7F800000#32
  let main_v12 : FVec F S128x128 .f32 := broadcastInDim S128x128 ![] bcast_S_S128x128 main_cst_2
  let main_v13 : IVec S128x128 1 := cmpf .olt main_v11 main_v12
  let main_v14 : FVec F S128 .f32 := Host.absf main_arg4
  let main_cst_3 : FVec F S_ .f32 := constant S_ .f32 0x7F800000#32
  let main_v15 : FVec F S128 .f32 := broadcastInDim S128 ![] bcast_S_S128 main_cst_3
  let main_v16 : IVec S128 1 := cmpf .olt main_v14 main_v15
  (main_v2, main_v7, main_v10, main_v13, main_v16)
-- ==== Kernel.lean ====
abbrev S4x128x64x64 : Shape := ⟨4, ![4, 128, 64, 64]⟩
abbrev S4x1x64x64 : Shape := ⟨4, ![4, 1, 64, 64]⟩
abbrev S128x128 : Shape := ⟨2, ![128, 128]⟩
abbrev S128 : Shape := ⟨1, ![128]⟩
abbrev S4x1x4096 : Shape := ⟨3, ![4, 1, 4096]⟩
abbrev S_ : Shape := ⟨0, ![]⟩
abbrev S4x128x4096 : Shape := ⟨3, ![4, 128, 4096]⟩
abbrev S4x16x128 : Shape := ⟨3, ![4, 16, 128]⟩
abbrev S4x1x128 : Shape := ⟨3, ![4, 1, 128]⟩
abbrev S1x128 : Shape := ⟨2, ![1, 128]⟩
abbrev S1x128x4096 : Shape := ⟨3, ![1, 128, 4096]⟩
abbrev S1x1x4096 : Shape := ⟨3, ![1, 1, 4096]⟩
abbrev S1x16x128 : Shape := ⟨3, ![1, 16, 128]⟩
abbrev S1x1x128 : Shape := ⟨3, ![1, 1, 128]⟩
abbrev S128x4096 : Shape := ⟨2, ![128, 4096]⟩
abbrev S4096 : Shape := ⟨1, ![4096]⟩
abbrev S1x4096 : Shape := ⟨2, ![1, 4096]⟩
abbrev S16x4096 : Shape := ⟨2, ![16, 4096]⟩
abbrev S16x128 : Shape := ⟨2, ![16, 128]⟩
abbrev S16 : Shape := ⟨1, ![16]⟩
abbrev S16x1 : Shape := ⟨2, ![16, 1]⟩
abbrev S4x16x1 : Shape := ⟨3, ![4, 16, 1]⟩
abbrev S4x16 : Shape := ⟨2, ![4, 16]⟩
abbrev S4x128 : Shape := ⟨2, ![4, 128]⟩
abbrev S4x1x16x128 : Shape := ⟨4, ![4, 1, 16, 128]⟩
abbrev S4x16x1x128 : Shape := ⟨4, ![4, 16, 1, 128]⟩
abbrev S4x16x16x128 : Shape := ⟨4, ![4, 16, 16, 128]⟩
abbrev S1024x128 : Shape := ⟨2, ![1024, 128]⟩
abbrev S1024 : Shape := ⟨1, ![1024]⟩
abbrev S4x16x16 : Shape := ⟨3, ![4, 16, 16]⟩
abbrev S16x16 : Shape := ⟨2, ![16, 16]⟩
abbrev S1x16x16 : Shape := ⟨3, ![1, 16, 16]⟩
abbrev S1x4x16 : Shape := ⟨3, ![1, 4, 16]⟩
abbrev S1 : Shape := ⟨1, ![1]⟩
abbrev S1x1x1 : Shape := ⟨3, ![1, 1, 1]⟩
abbrev S128x1 : Shape := ⟨2, ![128, 1]⟩

abbrev nBuf : Space → Nat
  | .hbm => 20
  | .vmem => 29
  | .smem => 0
  | _ => 0

abbrev bufTy : (tb : Table) → Fin (tcTables nBuf tb) → BufTy
  | .hbm, ⟨0, _⟩ => ⟨S4x128x64x64, .f32⟩
  | .hbm, ⟨1, _⟩ => ⟨S4x1x64x64, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S4x1x4096, .i32⟩
  | .hbm, ⟨7, _⟩ => ⟨S_, .i32⟩
  | .hbm, ⟨8, _⟩ => ⟨S4x1x4096, .i32⟩
  | .hbm, ⟨9, _⟩ => ⟨S4x1x4096, .i32⟩
  | .hbm, ⟨10, _⟩ => ⟨S4x128x4096, .f32⟩
  | .hbm, ⟨11, _⟩ => ⟨S4x16x128, .f32⟩
  | .hbm, ⟨12, _⟩ => ⟨S4x16x128, .f32⟩
  | .hbm, ⟨13, _⟩ => ⟨S4x1x128, .f32⟩
  | .hbm, ⟨14, _⟩ => ⟨S1x128, .f32⟩
  | .hbm, ⟨15, _⟩ => ⟨S1x128, .f32⟩
  | .hbm, ⟨16, _⟩ => ⟨S4x16x128, .f32⟩
  | .hbm, ⟨17, _⟩ => ⟨S1x128, .f32⟩
  | .hbm, ⟨18, _⟩ => ⟨S4x128x4096, .f32⟩
  | .hbm, ⟨19, _⟩ => ⟨S4x128x64x64, .f32⟩
  | .local _ .vmem, ⟨0, _⟩ => ⟨S1x128x4096, .f32⟩
  | .local _ .vmem, ⟨1, _⟩ => ⟨S1x128x4096, .f32⟩
  | .local _ .vmem, ⟨2, _⟩ => ⟨S1x1x4096, .i32⟩
  | .local _ .vmem, ⟨3, _⟩ => ⟨S1x1x4096, .i32⟩
  | .local _ .vmem, ⟨4, _⟩ => ⟨S128x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x1x128, .f32⟩
  | .local _ .vmem, ⟨10, _⟩ => ⟨S1x1x128, .f32⟩
  | .local _ .vmem, ⟨11, _⟩ => ⟨S4x16x128, .f32⟩
  | .local _ .vmem, ⟨12, _⟩ => ⟨S4x16x128, .f32⟩
  | .local _ .vmem, ⟨13, _⟩ => ⟨S4x1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S4x16x128, .f32⟩
  | .local _ .vmem, ⟨18, _⟩ => ⟨S1x128, .f32⟩
  | .local _ .vmem, ⟨19, _⟩ => ⟨S1x128x4096, .f32⟩
  | .local _ .vmem, ⟨20, _⟩ => ⟨S1x128x4096, .f32⟩
  | .local _ .vmem, ⟨21, _⟩ => ⟨S1x1x4096, .i32⟩
  | .local _ .vmem, ⟨22, _⟩ => ⟨S1x1x4096, .i32⟩
  | .local _ .vmem, ⟨23, _⟩ => ⟨S128x128, .f32⟩
  | .local _ .vmem, ⟨24, _⟩ => ⟨S1x16x128, .f32⟩
  | .local _ .vmem, ⟨25, _⟩ => ⟨S1x16x128, .f32⟩
  | .local _ .vmem, ⟨26, _⟩ => ⟨S1x128, .f32⟩
  | .local _ .vmem, ⟨27, _⟩ => ⟨S1x128x4096, .f32⟩
  | .local _ .vmem, ⟨28, _⟩ => ⟨S1x128x4096, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4_0 : Ref sig .tc := ⟨.hbm, 11, rfl⟩
abbrev main_call0_v4_1 : Ref sig .tc := ⟨.hbm, 12, rfl⟩
abbrev main_call0_v4_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7_0 : Ref sig .tc := ⟨.hbm, 16, rfl⟩
abbrev main_call0_v7_1 : Ref sig .tc := ⟨.hbm, 17, rfl⟩
abbrev main_call0_v8 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x16x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x128x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S4x128x64x64 : Shape := ⟨4, ![4, 128, 64, 64]⟩
abbrev S4x1x64x64 : Shape := ⟨4, ![4, 1, 64, 64]⟩
abbrev S128x128 : Shape := ⟨2, ![128, 128]⟩
abbrev S128 : Shape := ⟨1, ![128]⟩
abbrev S128x4x64x64 : Shape := ⟨4, ![128, 4, 64, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S64x64x2 : Shape := ⟨3, ![64, 64, 2]⟩
abbrev S4x64x64 : Shape := ⟨3, ![4, 64, 64]⟩
abbrev S4x64x64x1 : Shape := ⟨4, ![4, 64, 64, 1]⟩
abbrev S1x1x1x16 : Shape := ⟨4, ![1, 1, 1, 16]⟩
abbrev S4x64x64x16 : Shape := ⟨4, ![4, 64, 64, 16]⟩
abbrev S4x16x64x64 : Shape := ⟨4, ![4, 16, 64, 64]⟩
abbrev S4x16 : Shape := ⟨2, ![4, 16]⟩
abbrev S4x16x128 : Shape := ⟨3, ![4, 16, 128]⟩
abbrev S4x16x1 : Shape := ⟨3, ![4, 16, 1]⟩
abbrev S4x1x16x128 : Shape := ⟨4, ![4, 1, 16, 128]⟩
abbrev S4x16x1x128 : Shape := ⟨4, ![4, 16, 1, 128]⟩
abbrev S4x16x16x128 : Shape := ⟨4, ![4, 16, 16, 128]⟩
abbrev S4x256x128 : Shape := ⟨3, ![4, 256, 128]⟩
abbrev S4x256 : Shape := ⟨2, ![4, 256]⟩
abbrev S4x16x16 : Shape := ⟨3, ![4, 16, 16]⟩
abbrev S16x16 : Shape := ⟨2, ![16, 16]⟩
abbrev S1x16x16 : Shape := ⟨3, ![1, 16, 16]⟩
abbrev S4x16x16x1 : Shape := ⟨4, ![4, 16, 16, 1]⟩
abbrev S1x16x16x1 : Shape := ⟨4, ![1, 16, 16, 1]⟩
abbrev S4x1x128x64x64 : Shape := ⟨5, ![4, 1, 128, 64, 64]⟩
abbrev S4x16x128x1x1 : Shape := ⟨5, ![4, 16, 128, 1, 1]⟩
abbrev S4x16x128x64x64 : Shape := ⟨5, ![4, 16, 128, 64, 64]⟩
abbrev S4x64x64x128 : Shape := ⟨4, ![4, 64, 64, 128]⟩
abbrev S1x128x1x1 : Shape := ⟨4, ![1, 128, 1, 1]⟩

abbrev nBuf : Space → Nat
  | .hbm => 192
  | .vmem => 0
  | .smem => 0
  | _ => 0

abbrev hbmTy0_0 (i : Nat) : BufTy := match i % 128 with
  | 0 => ⟨S4x128x64x64, .f32⟩
  | 1 => ⟨S4x1x64x64, .i32⟩
  | 2 => ⟨S128x128, .f32⟩
  | 3 => ⟨S128x128, .f32⟩
  | 4 => ⟨S128, .f32⟩
  | 5 => ⟨S128, .f32⟩
  | 6 => ⟨S128x4x64x64, .f32⟩
  | 7 => ⟨S4x128x64x64, .f32⟩
  | 8 => ⟨S64, .i32⟩
  | 9 => ⟨S_, .i32⟩
  | 10 => ⟨S64, .i32⟩
  | 11 => ⟨S64, .i32⟩
  | 12 => ⟨S_, .i32⟩
  | 13 => ⟨S_, .i32⟩
  | 14 => ⟨S64, .i32⟩
  | 15 => ⟨S64, .i32⟩
  | 16 => ⟨S64, .i32⟩
  | 17 => ⟨S_, .i32⟩
  | 18 => ⟨S64, .i32⟩
  | 19 => ⟨S64, .i1⟩
  | 20 => ⟨S64, .i32⟩
  | 21 => ⟨S64, .i32⟩
  | 22 => ⟨S_, .i32⟩
  | 23 => ⟨S64, .i32⟩
  | 24 => ⟨S64, .i1⟩
  | 25 => ⟨S64, .i1⟩
  | 26 => ⟨S_, .i32⟩
  | 27 => ⟨S64, .i32⟩
  | 28 => ⟨S64, .i32⟩
  | 29 => ⟨S64, .i32⟩
  | 30 => ⟨S64, .i32⟩
  | 31 => ⟨S_, .i32⟩
  | 32 => ⟨S64, .i32⟩
  | 33 => ⟨S64, .i32⟩
  | 34 => ⟨S_, .i32⟩
  | 35 => ⟨S_, .i32⟩
  | 36 => ⟨S64, .i32⟩
  | 37 => ⟨S64, .i32⟩
  | 38 => ⟨S64, .i32⟩
  | 39 => ⟨S_, .i32⟩
  | 40 => ⟨S64, .i32⟩
  | 41 => ⟨S64, .i1⟩
  | 42 => ⟨S64, .i32⟩
  | 43 => ⟨S64, .i32⟩
  | 44 => ⟨S_, .i32⟩
  | 45 => ⟨S64, .i32⟩
  | 46 => ⟨S64, .i1⟩
  | 47 => ⟨S64, .i1⟩
  | 48 => ⟨S_, .i32⟩
  | 49 => ⟨S64, .i32⟩
  | 50 => ⟨S64, .i32⟩
  | 51 => ⟨S64, .i32⟩
  | 52 => ⟨S64x1, .i32⟩
  | 53 => ⟨S1x64, .i32⟩
  | 54 => ⟨S_, .i32⟩
  | 55 => ⟨S64x1, .i32⟩
  | 56 => ⟨S64x1, .i1⟩
  | 57 => ⟨S_, .i32⟩
  | 58 => ⟨S64x1, .i32⟩
  | 59 => ⟨S64x1, .i32⟩
  | 60 => ⟨S64x1, .i32⟩
  | 61 => ⟨S_, .i32⟩
  | 62 => ⟨S1x64, .i32⟩
  | 63 => ⟨S1x64, .i1⟩
  | 64 => ⟨S_, .i32⟩
  | 65 => ⟨S1x64, .i32⟩
  | 66 => ⟨S1x64, .i32⟩
  | 67 => ⟨S1x64, .i32⟩
  | 68 => ⟨S64x64, .i32⟩
  | 69 => ⟨S64x64, .i32⟩
  | 70 => ⟨S64x64x1, .i32⟩
  | 71 => ⟨S64x64x1, .i32⟩
  | 72 => ⟨S64x64x2, .i32⟩
  | 73 => ⟨S4x1x64x64, .i32⟩
  | 74 => ⟨S_, .i32⟩
  | 75 => ⟨S4x1x64x64, .i32⟩
  | 76 => ⟨S4x1x64x64, .i32⟩
  | 77 => ⟨S4x64x64, .i32⟩
  | 78 => ⟨S4x64x64x1, .i32⟩
  | 79 => ⟨S1x1x1x16, .i32⟩
  | 80 => ⟨S4x64x64x16, .i32⟩
  | 81 => ⟨S4x64x64x16, .i32⟩
  | 82 => ⟨S4x64x64x16, .i1⟩
  | 83 => ⟨S4x64x64x16, .f32⟩
  | 84 => ⟨S4x16x64x64, .f32⟩
  | 85 => ⟨S_, .f32⟩
  | 86 => ⟨S4x16, .f32⟩
  | 87 => ⟨S4x16x128, .f32⟩
  | 88 => ⟨S_, .f32⟩
  | 89 => ⟨S4x16, .f32⟩
  | 90 => ⟨S4x16, .i1⟩
  | 91 => ⟨S4x16, .f32⟩
  | 92 => ⟨S4x16, .f32⟩
  | 93 => ⟨S4x16x1, .f32⟩
  | 94 => ⟨S4x16x128, .f32⟩
  | 95 => ⟨S4x16x128, .f32⟩
  | 96 => ⟨S4x1x16x128, .f32⟩
  | 97 => ⟨S4x16x1x128, .f32⟩
  | 98 => ⟨S4x16x16x128, .f32⟩
  | 99 => ⟨S4x16x16x128, .f32⟩
  | 100 => ⟨S4x16x16x128, .f32⟩
  | 101 => ⟨S128x128, .f32⟩
  | 102 => ⟨S128x128, .f32⟩
  | 103 => ⟨S4x256x128, .f32⟩
  | 104 => ⟨S4x256x128, .f32⟩
  | 105 => ⟨S4x256x128, .f32⟩
  | 106 => ⟨S_, .f32⟩
  | 107 => ⟨S4x256, .f32⟩
  | 108 => ⟨S4x16x16, .f32⟩
  | 109 => ⟨S4x16x16, .f32⟩
  | 110 => ⟨S4x16x16, .f32⟩
  | 111 => ⟨S16x16, .i32⟩
  | 112 => ⟨S16x16, .i32⟩
  | 113 => ⟨S_, .i32⟩
  | 114 => ⟨S16x16, .i32⟩
  | 115 => ⟨S16x16, .i32⟩
  | 116 => ⟨S16x16, .i1⟩
  | 117 => ⟨S16x16, .f32⟩
  | 118 => ⟨S1x16x16, .f32⟩
  | 119 => ⟨S4x16x16, .f32⟩
  | 120 => ⟨S4x16x16, .f32⟩
  | 121 => ⟨S4x1x16x128, .f32⟩
  | 122 => ⟨S4x16x16x1, .f32⟩
  | 123 => ⟨S4x16x16x128, .f32⟩
  | 124 => ⟨S4x16x16x128, .f32⟩
  | 125 => ⟨S4x16x16x128, .f32⟩
  | 126 => ⟨S16x16, .i32⟩
  | 127 => ⟨S16x16, .i32⟩
  | _ => ⟨S4x128x64x64, .f32⟩

abbrev hbmTy0_1 (i : Nat) : BufTy := match i % 128 with
  | 0 => ⟨S_, .i32⟩
  | 1 => ⟨S16x16, .i32⟩
  | 2 => ⟨S16x16, .i32⟩
  | 3 => ⟨S16x16, .i1⟩
  | 4 => ⟨S16x16, .f32⟩
  | 5 => ⟨S_, .f32⟩
  | 6 => ⟨S16x16, .f32⟩
  | 7 => ⟨S16x16, .f32⟩
  | 8 => ⟨S1x16x16x1, .f32⟩
  | 9 => ⟨S4x16x16x128, .f32⟩
  | 10 => ⟨S4x16x16x128, .f32⟩
  | 11 => ⟨S_, .f32⟩
  | 12 => ⟨S4x16x128, .f32⟩
  | 13 => ⟨S4x1x128x64x64, .f32⟩
  | 14 => ⟨S4x16x128x1x1, .f32⟩
  | 15 => ⟨S4x16x128x64x64, .f32⟩
  | 16 => ⟨S4x16x128x64x64, .f32⟩
  | 17 => ⟨S4x16x128x64x64, .f32⟩
  | 18 => ⟨S4x64x64x128, .f32⟩
  | 19 => ⟨S4x128x64x64, .f32⟩
  | 20 => ⟨S_, .f32⟩
  | 21 => ⟨S128, .f32⟩
  | 22 => ⟨S_, .f32⟩
  | 23 => ⟨S128, .f32⟩
  | 24 => ⟨S128, .f32⟩
  | 25 => ⟨S_, .i32⟩
  | 26 => ⟨S_, .f32⟩
  | 27 => ⟨S128, .f32⟩
  | 28 => ⟨S1x128x1x1, .f32⟩
  | 29 => ⟨S_, .f32⟩
  | 30 => ⟨S1x128x1x1, .f32⟩
  | 31 => ⟨S1x128x1x1, .f32⟩
  | 32 => ⟨S4x128x64x64, .f32⟩
  | 33 => ⟨S4x128x64x64, .f32⟩
  | 34 => ⟨S4x128x64x64, .f32⟩
  | 35 => ⟨S_, .f32⟩
  | 36 => ⟨S_, .f32⟩
  | 37 => ⟨S_, .f32⟩
  | 38 => ⟨S_, .f32⟩
  | 39 => ⟨S128, .f32⟩
  | 40 => ⟨S128, .f32⟩
  | 41 => ⟨S128, .f32⟩
  | 42 => ⟨S_, .f32⟩
  | 43 => ⟨S_, .i1⟩
  | 44 => ⟨S_, .f32⟩
  | 45 => ⟨S_, .f32⟩
  | 46 => ⟨S128, .f32⟩
  | 47 => ⟨S128, .f32⟩
  | 48 => ⟨S1x128x1x1, .f32⟩
  | 49 => ⟨S4x128x64x64, .f32⟩
  | 50 => ⟨S4x128x64x64, .f32⟩
  | 51 => ⟨S1x128x1x1, .f32⟩
  | 52 => ⟨S_, .f32⟩
  | 53 => ⟨S1x128x1x1, .f32⟩
  | 54 => ⟨S1x128x1x1, .f32⟩
  | 55 => ⟨S1x128x1x1, .f32⟩
  | 56 => ⟨S4x128x64x64, .f32⟩
  | 57 => ⟨S4x128x64x64, .f32⟩
  | 58 => ⟨S1x128x1x1, .f32⟩
  | 59 => ⟨S4x128x64x64, .f32⟩
  | 60 => ⟨S4x128x64x64, .f32⟩
  | 61 => ⟨S1x128x1x1, .f32⟩
  | 62 => ⟨S4x128x64x64, .f32⟩
  | 63 => ⟨S4x128x64x64, .f32⟩
  | _ => ⟨S4x128x64x64, .f32⟩

abbrev hbmTy (i : Nat) : BufTy := match i / 128 with
  | 0 => hbmTy0_0 i
  | 1 => hbmTy0_1 i
  | _ => ⟨S4x128x64x64, .f32⟩

abbrev bufTy : (tb : Table) → Fin (tcTables nBuf tb) → BufTy
  | .hbm, ⟨i, _⟩ => hbmTy i
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_c_3 : Ref sig .tc := ⟨.hbm, 54, rfl⟩
abbrev main_v12 : Ref sig .tc := ⟨.hbm, 55, rfl⟩
abbrev main_v13 : Ref sig .tc := ⟨.hbm, 56, rfl⟩
abbrev main_c_4 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_c_5 : Ref sig .tc := ⟨.hbm, 61, rfl⟩
abbrev main_v17 : Ref sig .tc := ⟨.hbm, 62, rfl⟩
abbrev main_v18 : Ref sig .tc := ⟨.hbm, 63, rfl⟩
abbrev main_c_6 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_c_7 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v31 : Ref sig .tc := ⟨.hbm, 83, rfl⟩
abbrev main_v32 : Ref sig .tc := ⟨.hbm, 84, rfl⟩
abbrev main_cst : Ref sig .tc := ⟨.hbm, 85, rfl⟩
abbrev main_v33 : Ref sig .tc := ⟨.hbm, 86, rfl⟩
abbrev main_v34 : Ref sig .tc := ⟨.hbm, 87, rfl⟩
abbrev main_cst_8 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_9 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_c_10 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_c_11 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_12 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_13 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_14 : Ref sig .tc := ⟨.hbm, 148, rfl⟩
abbrev main_v89 : Ref sig .tc := ⟨.hbm, 149, rfl⟩
abbrev main_cst_15 : Ref sig .tc := ⟨.hbm, 150, rfl⟩
abbrev main_v90 : Ref sig .tc := ⟨.hbm, 151, rfl⟩
abbrev main_v91 : Ref sig .tc := ⟨.hbm, 152, rfl⟩
abbrev main_c_16 : Ref sig .tc := ⟨.hbm, 153, rfl⟩
abbrev main_call3_cst : Ref sig .tc := ⟨.hbm, 154, rfl⟩
abbrev main_call3_v0 : Ref sig .tc := ⟨.hbm, 155, rfl⟩
abbrev main_call3_v1 : Ref sig .tc := ⟨.hbm, 156, rfl⟩
abbrev main_call3_cst_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_v6 : Ref sig .tc := ⟨.hbm, 162, rfl⟩
abbrev main_call3_v7 : Ref sig .tc := ⟨.hbm, 163, rfl⟩
abbrev main_call3_cst_1 : Ref sig .tc := ⟨.hbm, 164, rfl⟩
abbrev main_call3_v8 : Ref sig .tc := ⟨.hbm, 165, rfl⟩
abbrev main_call3_cst_2 : Ref sig .tc := ⟨.hbm, 166, rfl⟩
abbrev main_call3_v9 : Ref sig .tc := ⟨.hbm, 167, rfl⟩
abbrev main_call3_v10 : Ref sig .tc := ⟨.hbm, 168, rfl⟩
abbrev main_call3_v11 : Ref sig .tc := ⟨.hbm, 169, rfl⟩
abbrev main_call3_cst_3 : Ref sig .tc := ⟨.hbm, 170, rfl⟩
abbrev main_call3_v12 : Ref sig .tc := ⟨.hbm, 171, rfl⟩
abbrev main_call3_cst_4 : Ref sig .tc := ⟨.hbm, 172, rfl⟩
abbrev main_call3_call0_v0 : Ref sig .tc := ⟨.hbm, 173, rfl⟩
abbrev main_call3_call0_v1 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_cst_17 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩

abbrev nD : Nat := 1
abbrev τ : Topo := Topo.v7x

variable {F : FTy → Type} [FloatOps F]
-- ==== Proof.KernelRun.lean ====
/- The run of the three kernels and the host operations between them: the result array ends at the contents the segments
   leave there, every argument as launched. -/
module

public import proofs.«01_k».proof.Proof.Gen.KernelIdeal.Frame

@[expose] public section

set_option synthInstance.maxSize 4096
set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- Every execution ends, nothing faulting, with the result array at the contents the last segment leaves there and the
    arguments as launched. -/
theorem run : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => (fun c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩))

end Cert.KernelIdeal.Val

end
-- ==== Proof.Spec.lean ====
/- The mathematics of the problem over the real numbers: the pixel features, the per-class means, the class-to-class
   adjacency, and the batch normalisation, each as a function of the coordinates; and the one identity the kernel relies on,
   that the statistics it assembles from per-class totals are the statistics of the feature map. A pixel is one number
   below 4096 (row times 64 plus column); `lab` is the class of a pixel, counted from zero. -/
module

public import Idealize.ShloMosaic.PureOps.Ideal

@[expose] public section

noncomputable section

namespace Cert.Spec

variable (X : Fin 4 → Fin 128 → Fin 4096 → ℝ) (lab : Fin 4 → Fin 4096 → Fin 16) (w W : Fin 128 → Fin 128 → ℝ)

/-- The projected features: the weight applied to a pixel's channels. -/
def x2 (b : Fin 4) (o : Fin 128) (p : Fin 4096) : ℝ := ∑ c, w c o * X b c p

/-- One where pixel `p` belongs to class `k`, zero elsewhere. -/
def e (b : Fin 4) (k : Fin 16) (p : Fin 4096) : ℝ := if lab b p = k then 1 else 0

/-- How many pixels of image `b` belong to class `k`. -/
def cnt (b : Fin 4) (k : Fin 16) : ℝ := ∑ p, e lab b k p

/-- The sum of the projected features over the pixels of class `k`. -/
def sums (b : Fin 4) (k : Fin 16) (o : Fin 128) : ℝ := ∑ p, e lab b k p * x2 X w b o p

/-- The sum of the squared projected features of image `b`. -/
def sumsq (b : Fin 4) (o : Fin 128) : ℝ := ∑ p, x2 X w b o p * x2 X w b o p

/-- The divisor of the class mean: the count, or one for a class without pixels. -/
def den (b : Fin 4) (k : Fin 16) : ℝ := cnt lab b k + if cnt lab b k = 0 then 1 else 0

/-- The mean projected feature of class `k`. -/
def mean (b : Fin 4) (k : Fin 16) (o : Fin 128) : ℝ := sums X lab w b k o / den lab b k

/-- The metric `W Wᵀ` of the adjacency. -/
def metric (r s : Fin 128) : ℝ := ∑ c, W r c * W s c

/-- The squared distance of two class means in the metric. -/
def q (b : Fin 4) (i j : Fin 16) : ℝ :=
  ∑ o, (∑ r, (mean X lab w b j r - mean X lab w b i r) * metric W r o) * (mean X lab w b j o - mean X lab w b i o)

/-- One off the diagonal, zero on it. -/
def off (i j : Fin 16) : ℝ := if i = j then 0 else 1

/-- The other classes' means weighted by the adjacency. -/
def adjm (b : Fin 4) (i : Fin 16) (o : Fin 128) : ℝ :=
  ∑ j, Real.exp (-q X lab w W b i j) * off i j * mean X lab w b j o

/-- The feature map: the projected features plus the weighted means of the pixel's class. -/
def f (b : Fin 4) (o : Fin 128) (p : Fin 4096) : ℝ := x2 X w b o p + adjm X lab w W b (lab b p) o

/-- A channel's mean over the batch. -/
def mu (o : Fin 128) : ℝ := (∑ b, ∑ p, f X lab w W b o p) / 16384

/-- A channel's variance over the batch. -/
def var (o : Fin 128) : ℝ :=
  (∑ b, ∑ p, (f X lab w W b o p - mu X lab w W o) * (f X lab w W b o p - mu X lab w W o)) / 16384

/-- The small constant added to the variance: the single-precision number nearest to 1e-5. -/
def eps : ℝ := 10995116 / 2 ^ 40

/-- A channel's total, assembled from the per-class totals. -/
def total (o : Fin 128) : ℝ :=
  (∑ b, ∑ k, sums X lab w b k o) + ∑ b, ∑ k, cnt lab b k * adjm X lab w W b k o

/-- A channel's total of squares, assembled from the per-class totals. -/
def totalSq (o : Fin 128) : ℝ :=
  (∑ b, sumsq X w b o) + 2 * (∑ b, ∑ k, adjm X lab w W b k o * sums X lab w b k o)
    + ∑ b, ∑ k, cnt lab b k * adjm X lab w W b k o * adjm X lab w W b k o

/-- A sum over the classes of an indicator times a value picks the value at the pixel's class. -/
theorem sum_e_mul (b : Fin 4) (p : Fin 4096) (g : Fin 16 → ℝ) : ∑ k, e lab b k p * g k = g (lab b p) := by
  simp [e]

/-- The indicators of a pixel add up to one. -/
theorem sum_e (b : Fin 4) (p : Fin 4096) : ∑ k, e lab b k p = 1 := by
  simp [e]

/-- A sum over the classes of a class value times the class total of `y` is a sum over the pixels. -/
theorem sum_class (b : Fin 4) (g : Fin 16 → ℝ) (y : Fin 4096 → ℝ) :
    ∑ k, g k * ∑ p, e lab b k p * y p = ∑ p, g (lab b p) * y p := by
  simp only [Finset.mul_sum]
  rw [Finset.sum_comm]
  refine Finset.sum_congr rfl fun p _ => ?_
  rw [← sum_e_mul lab b p fun k => g k * y p]
  exact Finset.sum_congr rfl fun k _ => by ring

/-- The class counts of the whole batch add up to the number of pixels. -/
theorem sum_cnt : ∑ b, ∑ k, cnt lab b k = 16384 := by
  have h : ∀ b, ∑ k, cnt lab b k = 4096 := fun b => by
    unfold cnt
    rw [Finset.sum_comm]
    simp [sum_e]
  simp [h]; norm_num

/-- The assembled total is the sum of the feature map. -/
theorem total_eq (o : Fin 128) : total X lab w W o = ∑ b, ∑ p, f X lab w W b o p := by
  unfold total
  rw [← Finset.sum_add_distrib]
  refine Finset.sum_congr rfl fun b _ => ?_
  have h1 : ∑ k, sums X lab w b k o = ∑ p, x2 X w b o p := by
    simpa only [one_mul, sums] using sum_class lab b (fun _ => 1) (x2 X w b o)
  have h2 : ∑ k, cnt lab b k * adjm X lab w W b k o = ∑ p, adjm X lab w W b (lab b p) o := by
    have h := sum_class lab b (fun k => adjm X lab w W b k o) fun _ => 1
    simp only [mul_one] at h
    rw [← h]
    exact Finset.sum_congr rfl fun k _ => mul_comm _ _
  rw [h1, h2, ← Finset.sum_add_distrib]
  rfl

/-- The assembled total of squares is the sum of the squared feature map. -/
theorem totalSq_eq (o : Fin 128) :
    totalSq X lab w W o = ∑ b, ∑ p, f X lab w W b o p * f X lab w W b o p := by
  unfold totalSq
  rw [Finset.mul_sum, ← Finset.sum_add_distrib, ← Finset.sum_add_distrib]
  refine Finset.sum_congr rfl fun b _ => ?_
  have h1 := sum_class lab b (fun k => adjm X lab w W b k o) (x2 X w b o)
  have h2 := sum_class lab b (fun k => adjm X lab w W b k o * adjm X lab w W b k o) fun _ => 1
  simp only [mul_one] at h2
  rw [show ∑ k, cnt lab b k * adjm X lab w W b k o * adjm X lab w W b k o
      = ∑ k, adjm X lab w W b k o * adjm X lab w W b k o * ∑ p, e lab b k p from
    Finset.sum_congr rfl fun k _ => by unfold cnt; ring, h2]
  unfold sums sumsq f
  rw [h1, Finset.mul_sum, ← Finset.sum_add_distrib, ← Finset.sum_add_distrib]
  exact Finset.sum_congr rfl fun p _ => by ring

/-- The mean of the assembled totals is the mean of the feature map. -/
theorem mu_eq (o : Fin 128) : total X lab w W o / 16384 = mu X lab w W o := by
  unfold mu; rw [total_eq]

/-- The variance of the assembled totals (mean of squares less squared mean) is the variance of the feature map. -/
theorem var_eq (o : Fin 128) :
    totalSq X lab w W o / 16384 - mu X lab w W o * mu X lab w W o = var X lab w W o := by
  have hs : ∑ b, ∑ p, f X lab w W b o p = 16384 * mu X lab w W o := by unfold mu; ring
  have hv : ∑ b, ∑ p, (f X lab w W b o p - mu X lab w W o) * (f X lab w W b o p - mu X lab w W o)
      = (∑ b, ∑ p, f X lab w W b o p * f X lab w W b o p) - 2 * mu X lab w W o * (∑ b, ∑ p, f X lab w W b o p)
        + 16384 * (mu X lab w W o * mu X lab w W o) := by
    rw [show (16384 : ℝ) * (mu X lab w W o * mu X lab w W o)
      = ∑ _b : Fin 4, ∑ _p : Fin 4096, mu X lab w W o * mu X lab w W o by simp; ring]
    rw [Finset.mul_sum, ← Finset.sum_sub_distrib, ← Finset.sum_add_distrib]
    refine Finset.sum_congr rfl fun b _ => ?_
    rw [Finset.mul_sum, ← Finset.sum_sub_distrib, ← Finset.sum_add_distrib]
    exact Finset.sum_congr rfl fun p _ => by ring
  unfold var
  rw [hv, hs, totalSq_eq]
  ring

/-- The variance is not negative. -/
theorem var_nonneg (o : Fin 128) : 0 ≤ var X lab w W o :=
  div_nonneg (Finset.sum_nonneg fun _ _ => Finset.sum_nonneg fun _ _ => mul_self_nonneg _) (by norm_num)

/-- What the square root is taken of is positive. -/
theorem var_add_eps_pos (o : Fin 128) : 0 < var X lab w W o + eps :=
  add_pos_of_nonneg_of_pos (var_nonneg X lab w W o) (by unfold eps; norm_num)

/-- A class without pixels is divided by one: the divisor is never zero. -/
theorem den_ne_zero (b : Fin 4) (k : Fin 16) : den lab b k ≠ 0 := by
  unfold den
  by_cases h : cnt lab b k = 0
  · simp [h]
  · simp [h]

variable (g : Fin 128 → ℝ)

/-- The factor of the normalisation. -/
def scale (o : Fin 128) : ℝ := g o * (Real.sqrt (var X lab w W o + eps))⁻¹

/-- The normalised feature map, before the bias is added. -/
def normed (b : Fin 4) (o : Fin 128) (p : Fin 4096) : ℝ :=
  (f X lab w W b o p - mu X lab w W o) / Real.sqrt (var X lab w W o + eps) * g o

/-- Scaling the projected features, the weighted means and the batch mean one by one is the normalisation. -/
theorem normed_eq (b : Fin 4) (o : Fin 128) (p : Fin 4096) :
    normed X lab w W g b o p = scale X lab w W g o * x2 X w b o p
      + (adjm X lab w W b (lab b p) o * scale X lab w W g o - mu X lab w W o * scale X lab w W g o) := by
  unfold normed scale f
  ring

end Cert.Spec

end
-- ==== Proof.Coe.lean ====
/- Facts the reading of both programs shares: sums of finite numbers, the float sums over the axes the printed programs
   reduce, zero-one words as numbers, and the constants the programs print. -/
module

public import Idealize.ShloMosaic.Lib.Pointwise
public import proofs.«01_k».proof.Proof.Spec

@[expose] public section

set_option maxRecDepth 16384

noncomputable section

open Idealize.ShloMosaic

namespace Cert.Coe

/-- A finite sum of real numbers is the same sum among the extended reals. -/
theorem coe_sum {ι : Type*} (s : Finset ι) (v : ι → ℝ) : ((∑ i ∈ s, v i : ℝ) : EReal) = ∑ i ∈ s, (v i : EReal) := by
  classical
  induction s using Finset.induction_on with
  | empty => simp
  | insert a s ha ih => rw [Finset.sum_insert ha, Finset.sum_insert ha, EReal.coe_add, ih]

/-- An extended real whose absolute value is below infinity is a real number. -/
theorem real_of_abs_lt {a : EReal} (h : max a (-a) < ⊤) : ∃ r : ℝ, a = r := by
  induction a using EReal.rec with
  | bot => simp at h
  | coe r => exact ⟨r, rfl⟩
  | top => simp at h

/-- A truth value widened to a signed word and converted is one or zero. -/
theorem sitofp_ofBool (b : Bool) :
    FloatOps.sitofp (F := Ideal) .f32 (BitVec.setWidth 32 (BitVec.ofBool b)) = ((if b = true then 1 else 0 : ℝ) : EReal) := by
  show (((BitVec.setWidth 32 (BitVec.ofBool b)).toInt : ℝ) : EReal) = _
  rw [show (BitVec.setWidth 32 (BitVec.ofBool b)).toInt = if b = true then 1 else 0 by cases b <;> decide +kernel]
  cases b <;> simp

/-- A truth value converted as an unsigned word is one or zero. -/
theorem uitofp_ofBool (b : Bool) :
    FloatOps.uitofp (F := Ideal) .f32 (BitVec.ofBool b) = ((if b = true then 1 else 0 : ℝ) : EReal) := by
  show (((BitVec.ofBool b).toNat : ℝ) : EReal) = _
  rw [show (BitVec.ofBool b).toNat = if b = true then 1 else 0 by cases b <;> decide +kernel]
  cases b <;> simp

/-- Two class words are equal exactly when the classes are. -/
theorem word_beq (l k : Fin 16) : (BitVec.ofNat 32 l == BitVec.ofNat 32 k) = decide (l = k) := by
  revert l k; decide +kernel

/-- The comparison of two class words, widened and converted, is the indicator of the classes being equal. -/
theorem eq_word (l k : Fin 16) :
    FloatOps.sitofp (F := Ideal) .f32 (BitVec.setWidth 32 (IntOp.cmpi .eq (BitVec.ofNat 32 l) (BitVec.ofNat 32 k)))
      = ((if l = k then 1 else 0 : ℝ) : EReal) := by
  show FloatOps.sitofp (F := Ideal) .f32 (BitVec.setWidth 32 (BitVec.ofBool (BitVec.ofNat 32 l == BitVec.ofNat 32 k))) = _
  rw [sitofp_ofBool, word_beq]; simp

/-- The same for the comparison of being different. -/
theorem ne_word (l k : Fin 16) :
    FloatOps.sitofp (F := Ideal) .f32 (BitVec.setWidth 32 (IntOp.cmpi .ne (BitVec.ofNat 32 l) (BitVec.ofNat 32 k)))
      = ((if l = k then 0 else 1 : ℝ) : EReal) := by
  show FloatOps.sitofp (F := Ideal) .f32 (BitVec.setWidth 32 (BitVec.ofBool !(BitVec.ofNat 32 l == BitVec.ofNat 32 k))) = _
  rw [sitofp_ofBool, word_beq]; by_cases h : l = k <;> simp [h]

/-- The comparison of two class words, converted as an unsigned word, is the indicator of the classes being equal. -/
theorem eq_word_u (l k : Fin 16) :
    FloatOps.uitofp (F := Ideal) .f32 (IntOp.cmpi .eq (BitVec.ofNat 32 l) (BitVec.ofNat 32 k))
      = ((if l = k then 1 else 0 : ℝ) : EReal) := by
  show FloatOps.uitofp (F := Ideal) .f32 (BitVec.ofBool (BitVec.ofNat 32 l == BitVec.ofNat 32 k)) = _
  rw [uitofp_ofBool, word_beq]; simp

/-- The printed infinity. -/
theorem ofBits_inf : Ideal.ofBits .f32 0x7F800000#32 = ⊤ := by simp [Ideal.ofBits, Ideal.ieee]
/-- The printed two. -/
theorem ofBits_two : Ideal.ofBits .f32 0x40000000#32 = ((2 : ℝ) : EReal) := by
  simp [Ideal.ofBits, Ideal.ieee]
  rw [← EReal.coe_mul]; norm_num
/-- The printed number of pixels. -/
theorem ofBits_pixels : Ideal.ofBits .f32 0x46800000#32 = ((16384 : ℝ) : EReal) := by
  simp [Ideal.ofBits, Ideal.ieee]
  rw [← EReal.coe_mul]; norm_num
/-- The printed small constant. -/
theorem ofBits_eps : Ideal.ofBits .f32 0x3727C5AC#32 = ((Spec.eps : ℝ) : EReal) := by
  simp [Ideal.ofBits, Ideal.ieee, Spec.eps]
  rw [← EReal.coe_mul]; norm_num

/-- The reciprocal square root of a positive number. -/
theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

/-- The square root of a positive number. -/
theorem sqrt_coe {r : ℝ} (h : 0 < r) : Ideal.sqrt (r : EReal) = ((Real.sqrt r : ℝ) : EReal) := by
  show (if r < 0 then ⊥ else ((Real.sqrt r : ℝ) : EReal)) = _
  rw [if_neg (not_lt.mpr h.le)]

/-- A quotient of real numbers by a divisor other than zero. -/
theorem div_coe {a b : ℝ} (h : b ≠ 0) : Ideal.div (a : EReal) (b : EReal) = ((a / b : ℝ) : EReal) := by
  simp [Ideal.div, h, div_eq_mul_inv, EReal.coe_inv]

/-- The exponential of a real number. -/
theorem exp_coe (r : ℝ) : Ideal.exp (r : EReal) = ((Real.exp r : ℝ) : EReal) := rfl

section lead
variable {n0 n1 n2 : Nat} {t : Shape}

theorem rank_lead (h : (⟨3, ![n0, n1, n2]⟩ : Shape).Reduces [0, 1] t) : t.rank = 1 := h.1
theorem lt_lead (h : (⟨3, ![n0, n1, n2]⟩ : Shape).Reduces [0, 1] t) : 0 < t.rank := by rw [rank_lead h]; omega

/-- Summing a three-axis array over its first two axes leaves the double sum at the last coordinate. -/
theorem reduceAdd_lead (h : (⟨3, ![n0, n1, n2]⟩ : Shape).Reduces [0, 1] ⟨1, ![n2]⟩)
    (v : (⟨3, ![n0, n1, n2]⟩ : Shape).Idx → EReal) (o : Fin n2) :
    Ideal.reduceAdd h v (ix1 o) = ∑ b : Fin n0, ∑ k : Fin n1, v (ix3 b k o) := by
  have hd : ∀ i, (h.drop i ⟨0, Nat.one_pos⟩).val = (i 2).val := fun i => rfl
  refine (Finset.sum_filter_eq_sum_of_fiber _ (fun k : Fin n0 × Fin n1 => (ix3 k.1 k.2 o : (⟨3, ![n0, n1, n2]⟩ : Shape).Idx))
    (fun _ _ e => Prod.ext (congrFun e 0) (congrFun e 1)) (fun i => ⟨fun e => ⟨(i 0, i 1), ?_⟩, ?_⟩) v).trans ?_
  · funext a; apply Fin.ext
    match a with
    | ⟨0, _⟩ => rfl
    | ⟨1, _⟩ => rfl
    | ⟨2, _⟩ => exact (congrArg (fun j : (⟨1, ![n2]⟩ : Shape).Idx => (j ⟨0, Nat.one_pos⟩).val) e).symm.trans (hd i)
  · rintro ⟨k, rfl⟩
    funext a; apply Fin.ext
    match a with
    | ⟨0, _⟩ => rfl
  · simp only [Fintype.sum_prod_type]

end lead

section batch
variable {n0 n1 n2 n3 : Nat}

/-- Summing a four-axis array over all axes but the second leaves the triple sum at that coordinate. -/
theorem hostReduceAdd_batch (h : (⟨4, ![n0, n1, n2, n3]⟩ : Shape).ReducesTo [0, 2, 3] ⟨1, ![n1]⟩)
    (v : (⟨4, ![n0, n1, n2, n3]⟩ : Shape).Idx → EReal) (c : EReal) (o : Fin n1) :
    Ideal.hostReduceAdd h v c (ix1 o) = c + ∑ b : Fin n0, ∑ y : Fin n2, ∑ x : Fin n3, v (ix4 b o y x) := by
  have hd : ∀ i, (h.drop i ⟨0, Nat.one_pos⟩).val = (i 1).val := fun i => rfl
  refine congrArg (c + ·) ((Finset.sum_filter_eq_sum_of_fiber _
    (fun k : Fin n0 × Fin n2 × Fin n3 => (ix4 k.1 o k.2.1 k.2.2 : (⟨4, ![n0, n1, n2, n3]⟩ : Shape).Idx))
    (fun _ _ e => Prod.ext (congrFun e 0) (Prod.ext (congrFun e 2) (congrFun e 3)))
    (fun i => ⟨fun e => ⟨(i 0, i 2, i 3), ?_⟩, ?_⟩) v).trans ?_)
  · funext a; apply Fin.ext
    match a with
    | ⟨0, _⟩ => rfl
    | ⟨1, _⟩ => exact (congrArg (fun j : (⟨1, ![n1]⟩ : Shape).Idx => (j ⟨0, Nat.one_pos⟩).val) e).symm.trans (hd i)
    | ⟨2, _⟩ => rfl
    | ⟨3, _⟩ => rfl
  · rintro ⟨k, rfl⟩
    funext a; apply Fin.ext
    match a with
    | ⟨0, _⟩ => rfl
  · simp only [Fintype.sum_prod_type]

end batch

end Cert.Coe

end
-- ==== Proof.Precondition.lean ====
/- What the precondition says: the images, the weight, the metric's factor and the scale hold real numbers, and every label
   less one is one of the sixteen classes. -/
module

public import proofs.«01_k».proof.Proof.Gen.Pre_finite_and_labelled
public import proofs.«01_k».proof.Proof.Coe

@[expose] public section

set_option maxRecDepth 16384

noncomputable section

namespace Cert.Pre_finite_and_labelled.Val

open Idealize.ShloMosaic Cert.Pre_finite_and_labelled Cert.Coe

/-- An element below infinity in absolute value, as the precondition compares it, is a real number. -/
theorem real_of_bit {a : EReal} (h : BitVec.ofBool (decide (max a (-a) < Ideal.ofBits .f32 0x7F800000#32)) = 1#1) :
    a = ((a.toReal : ℝ) : EReal) := by
  have hd : max a (-a) < Ideal.ofBits .f32 0x7F800000#32 := by
    by_contra hn
    rw [decide_eq_false hn] at h
    exact absurd h (by decide)
  rw [ofBits_inf] at hd
  obtain ⟨r, rfl⟩ := real_of_abs_lt hd
  rfl

/-- The class of a label: the label less one, among sixteen. -/
def classOf (v : BitVec 32) : Fin 16 := ⟨(IntOp.subi v 1#32).toNat % 16, Nat.mod_lt _ (by norm_num)⟩

/-- A label from one to sixteen, as the precondition compares it, less one is the word of its class. -/
theorem class_word {v : BitVec 32} (h : IntOp.andi (IntOp.cmpi .sge v 1#32) (IntOp.cmpi .sle v 16#32) = 1#1) :
    IntOp.subi v 1#32 = BitVec.ofNat 32 (classOf v) := by
  have hb : ∀ p q : Bool, IntOp.andi (BitVec.ofBool p) (BitVec.ofBool q) = 1#1 → p = true ∧ q = true := by decide
  obtain ⟨h1, h2⟩ := hb (BitVec.sle 1#32 v) (BitVec.sle v 16#32) h
  simp only [BitVec.sle, decide_eq_true_eq, BitVec.toInt_eq_toNat_cond] at h1 h2
  have hlo : 1 ≤ v.toNat ∧ v.toNat ≤ 16 := by
    have := v.isLt
    simp at h1 h2
    split at h1 <;> split at h2 <;> omega
  apply BitVec.eq_of_toNat_eq
  show (v - 1#32).toNat = (BitVec.ofNat 32 ((v - 1#32).toNat % 16)).toNat
  have hs : (v - 1#32).toNat = v.toNat - 1 := by
    rw [BitVec.toNat_sub]; simp; omega
  rw [hs, BitVec.toNat_ofNat]
  omega

variable {x0 : Vec Ideal S4x128x64x64 .f32} {x1 : Vec Ideal S4x1x64x64 .i32} {x2 x3 : Vec Ideal S128x128 .f32} {x4 x5 : Vec Ideal S128 .f32}

/-- The images hold real numbers. -/
theorem images (h : (fn (F := Ideal) x0 x1 x2 x3 x4 x5).1 = fun _ => 1#1) (b : Fin 4) (c : Fin 128) (y x : Fin 64) :
    x0 (ix4 b c y x) = (((x0 (ix4 b c y x) : EReal).toReal : ℝ) : EReal) := by
  refine real_of_bit ((?_ : _ = _).trans (congrFun h (ix4 b c y x)))
  pointwise [fn]
  rfl

/-- The labels less one are classes. -/
theorem labels (h : (fn (F := Ideal) x0 x1 x2 x3 x4 x5).2.1 = fun _ => 1#1) (b : Fin 4) (y x : Fin 64) :
    IntOp.subi (x1 (ix4 b 0 y x)) 1#32 = BitVec.ofNat 32 (classOf (x1 (ix4 b 0 y x))) := by
  refine class_word ((?_ : _ = _).trans (congrFun h (ix4 b 0 y x)))
  pointwise [fn]

/-- The weight holds real numbers. -/
theorem weight (h : (fn (F := Ideal) x0 x1 x2 x3 x4 x5).2.2.1 = fun _ => 1#1) (r s : Fin 128) :
    x2 (ix2 r s) = (((x2 (ix2 r s) : EReal).toReal : ℝ) : EReal) := by
  refine real_of_bit ((?_ : _ = _).trans (congrFun h (ix2 r s)))
  pointwise [fn]
  rfl

/-- The metric's factor holds real numbers. -/
theorem factor (h : (fn (F := Ideal) x0 x1 x2 x3 x4 x5).2.2.2.1 = fun _ => 1#1) (r s : Fin 128) :
    x3 (ix2 r s) = (((x3 (ix2 r s) : EReal).toReal : ℝ) : EReal) := by
  refine real_of_bit ((?_ : _ = _).trans (congrFun h (ix2 r s)))
  pointwise [fn]
  rfl

/-- The scale holds real numbers. -/
theorem gamma (h : (fn (F := Ideal) x0 x1 x2 x3 x4 x5).2.2.2.2 = fun _ => 1#1) (o : Fin 128) :
    x4 (ix1 o) = (((x4 (ix1 o) : EReal).toReal : ℝ) : EReal) := by
  refine real_of_bit ((?_ : _ = _).trans (congrFun h (ix1 o)))
  pointwise [fn]
  rfl

end Cert.Pre_finite_and_labelled.Val

end
-- ==== Proof.Blocks.lean ====
/- What one block of each of the three kernels computes, over the real numbers: given that the block's inputs hold real
   numbers (and class words), the block's outputs hold the quantities of `Spec`. -/
module

public import proofs.«01_k».proof.Proof.Gen.KernelIdeal.Skeleton
public import proofs.«01_k».proof.Proof.Coe

@[expose] public section

set_option maxRecDepth 16384

noncomputable section

namespace Cert.KernelIdeal.Val

open Idealize.ShloMosaic Cert.KernelIdeal Cert.KernelIdeal.Gen Cert.Coe

variable (X : Fin 4 → Fin 128 → Fin 4096 → ℝ) (lab : Fin 4 → Fin 4096 → Fin 16) (w W : Fin 128 → Fin 128 → ℝ)
  (g : Fin 128 → ℝ)

section stats
variable {X lab w} (b : Fin 4) {v0 : Vec Ideal S1x128x4096 .f32} {v2 : Vec Ideal S128x128 .f32} {v4 : Vec Ideal S1x1x4096 .i32}
  (hx : ∀ c p, v0 (ix3 0 c p) = ((X b c p : ℝ) : EReal)) (hw : ∀ o c, v2 (ix2 c o) = ((w c o : ℝ) : EReal))
  (hl : ∀ p, v4 (ix3 0 0 p) = BitVec.ofNat 32 (lab b p))

include hx hw in
/-- The first kernel's projection is the projected features. -/
theorem pay1_eq (o : Fin 128) (p : Fin 4096) : k0_pay1 v0 v2 (ix2 o p) = ((Spec.x2 X w b o p : ℝ) : EReal) := by
  rw [show k0_pay1 v0 v2 (ix2 o p) = ∑ c, v2 (ix2 c o) * v0 (ix3 0 c p) by pointwise [k0_pay1]]
  simp only [hx, hw, ← EReal.coe_mul, ← coe_sum, Spec.x2]

include hl in
/-- The first kernel's class mask is the indicator of the class. -/
theorem pay2_eq (k : Fin 16) (p : Fin 4096) : k0_pay2 (F := Ideal) v4 (ix2 k p) = ((Spec.e lab b k p : ℝ) : EReal) := by
  rw [show k0_pay2 (F := Ideal) v4 (ix2 k p)
      = FloatOps.sitofp (F := Ideal) .f32 (BitVec.setWidth 32 (IntOp.cmpi .eq (v4 (ix3 0 0 p)) (BitVec.ofNat 32 k))) by
    pointwise [k0_pay2], hl, eq_word]
  rfl

include hx hw hl in
/-- The first kernel's class sums. -/
theorem pay3_eq (k : Fin 16) (o : Fin 128) :
    k0_pay3 v0 v2 v4 (ix3 0 k o) = ((Spec.sums X lab w b k o : ℝ) : EReal) := by
  rw [show k0_pay3 v0 v2 v4 (ix3 0 k o) = ∑ x, k0_pay2 (F := Ideal) v4 (ix2 k x) * k0_pay1 v0 v2 (ix2 o x) by
    pointwise [k0_pay3]]
  simp only [pay1_eq b hx hw, pay2_eq b hl, ← EReal.coe_mul, ← coe_sum, Spec.sums]

include hl in
/-- The first kernel's class counts, the same in every channel. -/
theorem pay4_eq (k : Fin 16) (o : Fin 128) :
    k0_pay4 (F := Ideal) v4 (ix3 0 k o) = ((Spec.cnt lab b k : ℝ) : EReal) := by
  rw [show k0_pay4 (F := Ideal) v4 (ix3 0 k o) = ∑ x, k0_pay2 (F := Ideal) v4 (ix2 k x) by pointwise [k0_pay4]]
  simp only [pay2_eq b hl, ← coe_sum, Spec.cnt]

include hx hw in
/-- The first kernel's sums of squares. -/
theorem pay5_eq (o : Fin 128) : k0_pay5 v0 v2 (ix3 0 0 o) = ((Spec.sumsq X w b o : ℝ) : EReal) := by
  rw [show k0_pay5 v0 v2 (ix3 0 0 o) = ∑ x, k0_pay1 v0 v2 (ix2 o x) * k0_pay1 v0 v2 (ix2 o x) by pointwise [k0_pay5]]
  simp only [pay1_eq b hx hw, ← EReal.coe_mul, ← coe_sum, Spec.sumsq]

end stats

section adj
variable {X lab w W g} {v0 v2 : Vec Ideal S4x16x128 .f32} {v6 : Vec Ideal S4x1x128 .f32} {v9 : Vec Ideal S128x128 .f32}
  {v93 v99 : Vec Ideal S1x128 .f32}
  (hs : ∀ b k o, v0 (ix3 b k o) = ((Spec.sums X lab w b k o : ℝ) : EReal))
  (hc : ∀ b k o, v2 (ix3 b k o) = ((Spec.cnt lab b k : ℝ) : EReal))
  (hq : ∀ b o, v6 (ix3 b 0 o) = ((Spec.sumsq X w b o : ℝ) : EReal))
  (hW : ∀ r c, v9 (ix2 r c) = ((W r c : ℝ) : EReal))
  (hg : ∀ o, v93 (ix2 0 o) = ((g o : ℝ) : EReal))

include hs hc in
/-- The second kernel's class means. -/
theorem pay7_eq (b : Fin 4) (k : Fin 16) (o : Fin 128) :
    k1_pay7 v0 v2 (ix3 b k o) = ((Spec.mean X lab w b k o : ℝ) : EReal) := by
  rw [show k1_pay7 v0 v2 (ix3 b k o) = Ideal.div (v0 (ix3 b k o)) (v2 (ix3 b k 0) + FloatOps.sitofp (F := Ideal) .f32
      (BitVec.setWidth 32 (BitVec.ofBool (decide (v2 (ix3 b k 0) = 0))))) by pointwise [k1_pay7, k1_pay4, k1_pay5],
    hs, hc, sitofp_ofBool, ← EReal.coe_add]
  rw [show Spec.cnt lab b k + (if decide (((Spec.cnt lab b k : ℝ) : EReal) = 0) = true then (1 : ℝ) else 0)
    = Spec.den lab b k by simp [Spec.den], div_coe (Spec.den_ne_zero lab b k)]
  rfl

include hs hc hW in
/-- The second kernel's adjacency, with a zero diagonal. -/
theorem pay8_eq (b : Fin 4) (i j : Fin 16) :
    k1_pay8 v0 v2 v9 (ix3 b i j) = ((Real.exp (-Spec.q X lab w W b i j) * Spec.off i j : ℝ) : EReal) := by
  rw [show k1_pay8 v0 v2 v9 (ix3 b i j) = Ideal.exp (0 - ∑ x, (∑ x_1, (k1_pay7 v0 v2 (ix3 b j x_1) - k1_pay7 v0 v2 (ix3 b i x_1))
      * ∑ x_2, v9 (ix2 x_1 x_2) * v9 (ix2 x x_2)) * (k1_pay7 v0 v2 (ix3 b j x) - k1_pay7 v0 v2 (ix3 b i x)))
      * FloatOps.sitofp (F := Ideal) .f32 (BitVec.setWidth 32 (IntOp.cmpi .ne (BitVec.ofNat 32 i) (BitVec.ofNat 32 j))) by
    pointwise [k1_pay8]]
  simp only [pay7_eq hs hc, hW, ← EReal.coe_mul, ← EReal.coe_sub, ← coe_sum, ← EReal.coe_zero, exp_coe, ne_word]
  rw [show (0 : ℝ) - (∑ x, (∑ x_1, (Spec.mean X lab w b j x_1 - Spec.mean X lab w b i x_1) * ∑ x_2, W x_1 x_2 * W x x_2)
    * (Spec.mean X lab w b j x - Spec.mean X lab w b i x)) = -Spec.q X lab w W b i j from zero_sub _]
  rfl

include hs hc hW in
/-- The second kernel's weighted means, one image at a time. -/
theorem pay11_eq (b : Fin 4) (i : Fin 16) (o : Fin 128) :
    k1_pay11 (k1_pay7 v0 v2) (k1_pay8 v0 v2 v9) (k1_pay9 v0 v2 v9) (k1_pay10 v0 v2) (ix3 b i o)
      = ((Spec.adjm X lab w W b i o : ℝ) : EReal) := by
  have h : k1_pay11 (k1_pay7 v0 v2) (k1_pay8 v0 v2 v9) (k1_pay9 v0 v2 v9) (k1_pay10 v0 v2) (ix3 b i o)
      = ∑ x, k1_pay8 v0 v2 v9 (ix3 b i x) * k1_pay7 v0 v2 (ix3 b x o) := by
    pointwise [k1_pay11, k1_pay9, k1_pay10]
    fin_cases b <;> simp
  rw [h]
  simp only [pay7_eq hs hc, pay8_eq hs hc hW, ← EReal.coe_mul, ← coe_sum, Spec.adjm]

include hc in
/-- The second kernel's number of pixels. -/
theorem pay12_eq : k1_pay12 (k1_pay5 v2) = ((16384 : ℝ) : EReal) := by
  rw [show k1_pay12 (k1_pay5 v2) = ∑ b, ∑ k, v2 (ix3 b k 0) by pointwise [k1_pay12, k1_pay5]]
  simp only [hc, ← coe_sum, Spec.sum_cnt]

include hs hc hW in
/-- The second kernel's channel means. -/
theorem pay13_eq (o : Fin 128) :
    k1_pay13 (k1_pay4 v0) (k1_pay5 v2) (k1_pay7 v0 v2) (k1_pay8 v0 v2 v9) (k1_pay9 v0 v2 v9) (k1_pay10 v0 v2) (ix1 o)
      = ((Spec.mu X lab w W o : ℝ) : EReal) := by
  pointwise [k1_pay13]
  rw [pay12_eq hc]
  erw [reduceAdd_lead, reduceAdd_lead]
  pointwise [k1_pay4, k1_pay5]
  simp only [pay11_eq hs hc hW, hs, hc, ← EReal.coe_mul, ← coe_sum, ← EReal.coe_add]
  rw [div_coe (by norm_num), ← Spec.mu_eq]
  rfl

include hs hc hq hW in
/-- The second kernel's channel means of squares. -/
theorem pay14_eq (o : Fin 128) :
    k1_pay14 (k1_pay4 v0) (k1_pay5 v2) (k1_pay6 v6) (k1_pay7 v0 v2) (k1_pay8 v0 v2 v9) (k1_pay9 v0 v2 v9) (k1_pay10 v0 v2) (ix1 o)
      = ((Spec.totalSq X lab w W o / 16384 : ℝ) : EReal) := by
  pointwise [k1_pay14]
  rw [pay12_eq hc]
  erw [reduceAdd_lead, reduceAdd_lead]
  pointwise [k1_pay4, k1_pay5, k1_pay6]
  simp only [pay11_eq hs hc hW, hs, hc, hq, ofBits_two, ← EReal.coe_mul, ← coe_sum, ← EReal.coe_add]
  rw [div_coe (by norm_num)]
  rfl

include hs hc hq hW hg in
/-- The second kernel's normalisation factor. -/
theorem scale_eq (o : Fin 128) :
    k1_pay1 (k1_pay14 (k1_pay4 v0) (k1_pay5 v2) (k1_pay6 v6) (k1_pay7 v0 v2) (k1_pay8 v0 v2 v9) (k1_pay9 v0 v2 v9) (k1_pay10 v0 v2))
        (k1_pay15 (k1_pay4 v0) (k1_pay5 v2) (k1_pay7 v0 v2) (k1_pay8 v0 v2 v9) (k1_pay9 v0 v2 v9) (k1_pay10 v0 v2)) v93 (ix1 o)
      = ((Spec.scale X lab w W g o : ℝ) : EReal) := by
  pointwise [k1_pay1, k1_pay15]
  rw [pay13_eq hs hc hW, pay14_eq hs hc hq hW, hg, ofBits_eps, ← EReal.coe_mul, ← EReal.coe_sub, ← EReal.coe_add, Spec.var_eq,
    rsqrt_coe (Spec.var_add_eps_pos X lab w W o), ← EReal.coe_mul]
  rfl

include hs hc hq hW hg in
/-- The second kernel's first result: the weighted means, scaled and shifted. -/
theorem pay2_1_eq (b : Fin 4) (i : Fin 16) (o : Fin 128) :
    k1_pay2 (k1_pay11 (k1_pay7 v0 v2) (k1_pay8 v0 v2 v9) (k1_pay9 v0 v2 v9) (k1_pay10 v0 v2))
        (k1_pay13 (k1_pay4 v0) (k1_pay5 v2) (k1_pay7 v0 v2) (k1_pay8 v0 v2 v9) (k1_pay9 v0 v2 v9) (k1_pay10 v0 v2))
        (k1_pay14 (k1_pay4 v0) (k1_pay5 v2) (k1_pay6 v6) (k1_pay7 v0 v2) (k1_pay8 v0 v2 v9) (k1_pay9 v0 v2 v9) (k1_pay10 v0 v2))
        (k1_pay15 (k1_pay4 v0) (k1_pay5 v2) (k1_pay7 v0 v2) (k1_pay8 v0 v2 v9) (k1_pay9 v0 v2 v9) (k1_pay10 v0 v2)) v93 v99 (ix3 b i o)
      = ((Spec.adjm X lab w W b i o * Spec.scale X lab w W g o : ℝ) : EReal)
        + (v99 (ix2 0 o) - ((Spec.mu X lab w W o * Spec.scale X lab w W g o : ℝ) : EReal)) := by
  pointwise [k1_pay2]
  rw [pay11_eq hs hc hW, pay13_eq hs hc hW, scale_eq hs hc hq hW hg, ← EReal.coe_mul, ← EReal.coe_mul]

include hs hc hq hW hg in
/-- The second kernel's second result: the normalisation factor as a row. -/
theorem pay3_1_eq (o : Fin 128) :
    k1_pay3 (k1_pay14 (k1_pay4 v0) (k1_pay5 v2) (k1_pay6 v6) (k1_pay7 v0 v2) (k1_pay8 v0 v2 v9) (k1_pay9 v0 v2 v9) (k1_pay10 v0 v2))
        (k1_pay15 (k1_pay4 v0) (k1_pay5 v2) (k1_pay7 v0 v2) (k1_pay8 v0 v2 v9) (k1_pay9 v0 v2 v9) (k1_pay10 v0 v2)) v93 (ix2 0 o)
      = ((Spec.scale X lab w W g o : ℝ) : EReal) := by
  pointwise [k1_pay3]
  exact scale_eq hs hc hq hW hg o

end adj

/-- A shifted sum with one extended real: the real parts collect. -/
theorem collect (r s t : ℝ) (x : EReal) :
    (r : EReal) + ((s : EReal) + (x - (t : EReal))) = ((r + (s - t) : ℝ) : EReal) + x := by
  induction x using EReal.rec with
  | bot => simp [sub_eq_add_neg]
  | coe x => norm_cast; ring
  | top => simp [sub_eq_add_neg, ← EReal.coe_neg]

section apply
variable {X lab w W g} (b : Fin 4) {v0 : Vec Ideal S1x128x4096 .f32} {v2 : Vec Ideal S128x128 .f32} {v4 : Vec Ideal S1x1x4096 .i32}
  {v12 : Vec Ideal S1x16x128 .f32} {v15 : Vec Ideal S1x128 .f32} {bet : Fin 128 → EReal}
  (hx : ∀ c p, v0 (ix3 0 c p) = ((X b c p : ℝ) : EReal)) (hw : ∀ o c, v2 (ix2 c o) = ((w c o : ℝ) : EReal))
  (hl : ∀ p, v4 (ix3 0 0 p) = BitVec.ofNat 32 (lab b p))
  (ha : ∀ k o, v12 (ix3 0 k o) = ((Spec.adjm X lab w W b k o * Spec.scale X lab w W g o : ℝ) : EReal)
    + (bet o - ((Spec.mu X lab w W o * Spec.scale X lab w W g o : ℝ) : EReal)))
  (hsc : ∀ o, v15 (ix2 0 o) = ((Spec.scale X lab w W g o : ℝ) : EReal))

include hx hw hl ha hsc in
/-- The third kernel's result: the normalised feature map plus the bias. -/
theorem pay1_2_eq (o : Fin 128) (p : Fin 4096) :
    k2_pay1 v0 v2 v4 v12 v15 (ix3 0 o p) = ((Spec.normed X lab w W g b o p : ℝ) : EReal) + bet o := by
  rw [show k2_pay1 v0 v2 v4 v12 v15 (ix3 0 o p) = v15 (ix2 0 o) * ∑ x, v2 (ix2 x o) * v0 (ix3 0 x p)
      + ∑ x, v12 (ix3 0 x o) * FloatOps.sitofp (F := Ideal) .f32
        (BitVec.setWidth 32 (IntOp.cmpi .eq (v4 (ix3 0 0 p)) (BitVec.ofNat 32 x))) by pointwise [k2_pay1]]
  simp only [hl, eq_word]
  rw [Finset.sum_eq_single (lab b p) (fun k _ hk => by rw [if_neg hk.symm]; simp) (by simp), if_pos rfl, EReal.coe_one, mul_one, ha]
  simp only [hx, hw, hsc, ← EReal.coe_mul, ← coe_sum]
  rw [collect, Spec.normed_eq]
  rfl

end apply

end Cert.KernelIdeal.Val

end
-- ==== Proof.Windows.lean ====
/- What each window's block is of its array: block `t` of a per-image window is image `t` of the array, the block of a
   whole-array window is the array. -/
module

public import proofs.«01_k».proof.Proof.Gen.KernelIdeal.Frame
public import proofs.«01_k».proof.Proof.Blocks

@[expose] public section

set_option maxRecDepth 16384

noncomputable section

namespace Cert.KernelIdeal.Val

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

/-- Where window 0 of kernel 0's blocks start. -/
theorem at0_0 : ∀ t : Fin cfg0.N, win0_0.index t 0 * win0_0.size 0 = t.val ∧ win0_0.index t 1 * win0_0.size 1 = 0 ∧ win0_0.index t 2 * win0_0.size 2 = 0 := by decide +kernel

/-- An input block at an index is its array at the matching index. -/
theorem blk0_0 (t : Fin cfg0.N) (b : Fin 4) (hb : b.val = t.val) (y : Fin 128) (z : Fin 4096) :
    (iblk0 V c 0 t : Vec Ideal S1x128x4096 .f32) (ix3 0 y z) = V c main_call0_v3 (ix3 b y z) := by
  obtain ⟨e0, e1, e2⟩ := at0_0 t
  refine congrArg (V c main_call0_v3) (funext fun a => Fin.ext ?_)
  match a with
  | ⟨0, _⟩ => show win0_0.index t 0 * win0_0.size 0 + 1 * 0 = b.val; omega
  | ⟨1, _⟩ => show win0_0.index t 1 * win0_0.size 1 + 1 * y.val = y.val; omega
  | ⟨2, _⟩ => show win0_0.index t 2 * win0_0.size 2 + 1 * z.val = z.val; omega

/-- Where window 1 of kernel 0's blocks start. -/
theorem at0_1 : ∀ t : Fin cfg0.N, win0_1.index t 0 * win0_1.size 0 = t.val ∧ win0_1.index t 1 * win0_1.size 1 = 0 ∧ win0_1.index t 2 * win0_1.size 2 = 0 := by decide +kernel

/-- An input block at an index is its array at the matching index. -/
theorem blk0_1 (t : Fin cfg0.N) (b : Fin 4) (hb : b.val = t.val) (y : Fin 1) (z : Fin 4096) :
    (iblk0 V c 1 t : Vec Ideal S1x1x4096 .i32) (ix3 0 y z) = V c main_call0_v2 (ix3 b y z) := by
  obtain ⟨e0, e1, e2⟩ := at0_1 t
  refine congrArg (V c main_call0_v2) (funext fun a => Fin.ext ?_)
  match a with
  | ⟨0, _⟩ => show win0_1.index t 0 * win0_1.size 0 + 1 * 0 = b.val; omega
  | ⟨1, _⟩ => show win0_1.index t 1 * win0_1.size 1 + 1 * y.val = y.val; omega
  | ⟨2, _⟩ => show win0_1.index t 2 * win0_1.size 2 + 1 * z.val = z.val; omega

/-- Where window 2 of kernel 0's blocks start. -/
theorem at0_2 : ∀ t : Fin cfg0.N, win0_2.index t 0 * win0_2.size 0 = 0 ∧ win0_2.index t 1 * win0_2.size 1 = 0 := by decide +kernel

/-- An input block at an index is its array at the matching index. -/
theorem blk0_2 (t : Fin cfg0.N) (x : Fin 128) (y : Fin 128) :
    (iblk0 V c 2 t : Vec Ideal S128x128 .f32) (ix2 x y) = V c main_arg2 (ix2 x y) := by
  obtain ⟨e0, e1⟩ := at0_2 t
  refine congrArg (V c main_arg2) (funext fun a => Fin.ext ?_)
  match a with
  | ⟨0, _⟩ => show win0_2.index t 0 * win0_2.size 0 + 1 * x.val = x.val; omega
  | ⟨1, _⟩ => show win0_2.index t 1 * win0_2.size 1 + 1 * y.val = y.val; omega

/-- Where window 3 of kernel 0's blocks start. -/
theorem at0_3 : ∀ t : Fin cfg0.N, win0_3.index t 0 * win0_3.size 0 = t.val ∧ win0_3.index t 1 * win0_3.size 1 = 0 ∧ win0_3.index t 2 * win0_3.size 2 = 0 := by decide +kernel

/-- Reading an array through an output block is reading it at the matching index. -/
theorem blk0_3 (A : S4x16x128.Idx → EReal) (t : Fin cfg0.N) (b : Fin 4) (hb : b.val = t.val) (y : Fin 16) (z : Fin 128) :
    (((cfg0.win 3).blk t).view.read (Elt Ideal) A : Vec Ideal S1x16x128 .f32) (ix3 0 y z) = A (ix3 b y z) := by
  obtain ⟨e0, e1, e2⟩ := at0_3 t
  refine congrArg A (funext fun a => Fin.ext ?_)
  match a with
  | ⟨0, _⟩ => show win0_3.index t 0 * win0_3.size 0 + 1 * 0 = b.val; omega
  | ⟨1, _⟩ => show win0_3.index t 1 * win0_3.size 1 + 1 * y.val = y.val; omega
  | ⟨2, _⟩ => show win0_3.index t 2 * win0_3.size 2 + 1 * z.val = z.val; omega

/-- The output blocks tile the array. -/
theorem cov0_3 (i : S4x16x128.Idx) :
    ∃ t : Fin cfg0.N, (cfg0.win 3).flush t = true ∧ i ∈ ((cfg0.win 3).blk t).view.set := by
  refine ⟨⟨(i 0).val, by show _ < grid0.N; rw [N_0]; exact (i 0).isLt⟩, flush0_3 _, ?_⟩
  generalize ht : (⟨_, _⟩ : Fin cfg0.N) = t
  have hv := congrArg Fin.val ht
  dsimp only at hv
  obtain ⟨e0, e1, e2⟩ := at0_3 t
  show i ∈ ((View.whole main_call0_v4_0).slice (win0_3.rect t)).set
  rw [View.set_slice_whole, Rect.mem_set_unit]
  intro a
  match a with
  | ⟨0, _⟩ =>
    have h : (i 0).val < 4 := (i 0).isLt
    show win0_3.index t 0 * win0_3.size 0 ≤ (i 0).val ∧ (i 0).val < win0_3.index t 0 * win0_3.size 0 + 1
    omega
  | ⟨1, _⟩ =>
    have h : (i 1).val < 16 := (i 1).isLt
    show win0_3.index t 1 * win0_3.size 1 ≤ (i 1).val ∧ (i 1).val < win0_3.index t 1 * win0_3.size 1 + 16
    omega
  | ⟨2, _⟩ =>
    have h : (i 2).val < 128 := (i 2).isLt
    show win0_3.index t 2 * win0_3.size 2 ≤ (i 2).val ∧ (i 2).val < win0_3.index t 2 * win0_3.size 2 + 128
    omega

/-- Where window 4 of kernel 0's blocks start. -/
theorem at0_4 : ∀ t : Fin cfg0.N, win0_4.index t 0 * win0_4.size 0 = t.val ∧ win0_4.index t 1 * win0_4.size 1 = 0 ∧ win0_4.index t 2 * win0_4.size 2 = 0 := by decide +kernel

/-- Reading an array through an output block is reading it at the matching index. -/
theorem blk0_4 (A : S4x16x128.Idx → EReal) (t : Fin cfg0.N) (b : Fin 4) (hb : b.val = t.val) (y : Fin 16) (z : Fin 128) :
    (((cfg0.win 4).blk t).view.read (Elt Ideal) A : Vec Ideal S1x16x128 .f32) (ix3 0 y z) = A (ix3 b y z) := by
  obtain ⟨e0, e1, e2⟩ := at0_4 t
  refine congrArg A (funext fun a => Fin.ext ?_)
  match a with
  | ⟨0, _⟩ => show win0_4.index t 0 * win0_4.size 0 + 1 * 0 = b.val; omega
  | ⟨1, _⟩ => show win0_4.index t 1 * win0_4.size 1 + 1 * y.val = y.val; omega
  | ⟨2, _⟩ => show win0_4.index t 2 * win0_4.size 2 + 1 * z.val = z.val; omega

/-- The output blocks tile the array. -/
theorem cov0_4 (i : S4x16x128.Idx) :
    ∃ t : Fin cfg0.N, (cfg0.win 4).flush t = true ∧ i ∈ ((cfg0.win 4).blk t).view.set := by
  refine ⟨⟨(i 0).val, by show _ < grid0.N; rw [N_0]; exact (i 0).isLt⟩, flush0_4 _, ?_⟩
  generalize ht : (⟨_, _⟩ : Fin cfg0.N) = t
  have hv := congrArg Fin.val ht
  dsimp only at hv
  obtain ⟨e0, e1, e2⟩ := at0_4 t
  show i ∈ ((View.whole main_call0_v4_1).slice (win0_4.rect t)).set
  rw [View.set_slice_whole, Rect.mem_set_unit]
  intro a
  match a with
  | ⟨0, _⟩ =>
    have h : (i 0).val < 4 := (i 0).isLt
    show win0_4.index t 0 * win0_4.size 0 ≤ (i 0).val ∧ (i 0).val < win0_4.index t 0 * win0_4.size 0 + 1
    omega
  | ⟨1, _⟩ =>
    have h : (i 1).val < 16 := (i 1).isLt
    show win0_4.index t 1 * win0_4.size 1 ≤ (i 1).val ∧ (i 1).val < win0_4.index t 1 * win0_4.size 1 + 16
    omega
  | ⟨2, _⟩ =>
    have h : (i 2).val < 128 := (i 2).isLt
    show win0_4.index t 2 * win0_4.size 2 ≤ (i 2).val ∧ (i 2).val < win0_4.index t 2 * win0_4.size 2 + 128
    omega

/-- Where window 5 of kernel 0's blocks start. -/
theorem at0_5 : ∀ t : Fin cfg0.N, win0_5.index t 0 * win0_5.size 0 = t.val ∧ win0_5.index t 1 * win0_5.size 1 = 0 ∧ win0_5.index t 2 * win0_5.size 2 = 0 := by decide +kernel

/-- Reading an array through an output block is reading it at the matching index. -/
theorem blk0_5 (A : S4x1x128.Idx → EReal) (t : Fin cfg0.N) (b : Fin 4) (hb : b.val = t.val) (y : Fin 1) (z : Fin 128) :
    (((cfg0.win 5).blk t).view.read (Elt Ideal) A : Vec Ideal S1x1x128 .f32) (ix3 0 y z) = A (ix3 b y z) := by
  obtain ⟨e0, e1, e2⟩ := at0_5 t
  refine congrArg A (funext fun a => Fin.ext ?_)
  match a with
  | ⟨0, _⟩ => show win0_5.index t 0 * win0_5.size 0 + 1 * 0 = b.val; omega
  | ⟨1, _⟩ => show win0_5.index t 1 * win0_5.size 1 + 1 * y.val = y.val; omega
  | ⟨2, _⟩ => show win0_5.index t 2 * win0_5.size 2 + 1 * z.val = z.val; omega

/-- The output blocks tile the array. -/
theorem cov0_5 (i : S4x1x128.Idx) :
    ∃ t : Fin cfg0.N, (cfg0.win 5).flush t = true ∧ i ∈ ((cfg0.win 5).blk t).view.set := by
  refine ⟨⟨(i 0).val, by show _ < grid0.N; rw [N_0]; exact (i 0).isLt⟩, flush0_5 _, ?_⟩
  generalize ht : (⟨_, _⟩ : Fin cfg0.N) = t
  have hv := congrArg Fin.val ht
  dsimp only at hv
  obtain ⟨e0, e1, e2⟩ := at0_5 t
  show i ∈ ((View.whole main_call0_v4_2).slice (win0_5.rect t)).set
  rw [View.set_slice_whole, Rect.mem_set_unit]
  intro a
  match a with
  | ⟨0, _⟩ =>
    have h : (i 0).val < 4 := (i 0).isLt
    show win0_5.index t 0 * win0_5.size 0 ≤ (i 0).val ∧ (i 0).val < win0_5.index t 0 * win0_5.size 0 + 1
    omega
  | ⟨1, _⟩ =>
    have h : (i 1).val < 1 := (i 1).isLt
    show win0_5.index t 1 * win0_5.size 1 ≤ (i 1).val ∧ (i 1).val < win0_5.index t 1 * win0_5.size 1 + 1
    omega
  | ⟨2, _⟩ =>
    have h : (i 2).val < 128 := (i 2).isLt
    show win0_5.index t 2 * win0_5.size 2 ≤ (i 2).val ∧ (i 2).val < win0_5.index t 2 * win0_5.size 2 + 128
    omega

/-- Where window 0 of kernel 1's blocks start. -/
theorem at1_0 : ∀ t : Fin cfg1.N, win1_0.index t 0 * win1_0.size 0 = 0 ∧ win1_0.index t 1 * win1_0.size 1 = 0 ∧ win1_0.index t 2 * win1_0.size 2 = 0 := by decide +kernel

/-- An input block at an index is its array at the matching index. -/
theorem blk1_0 (t : Fin cfg1.N) (x : Fin 4) (y : Fin 16) (z : Fin 128) :
    (iblk1 V c 0 t : Vec Ideal S4x16x128 .f32) (ix3 x y z) = V c main_call0_v4_0 (ix3 x y z) := by
  obtain ⟨e0, e1, e2⟩ := at1_0 t
  refine congrArg (V c main_call0_v4_0) (funext fun a => Fin.ext ?_)
  match a with
  | ⟨0, _⟩ => show win1_0.index t 0 * win1_0.size 0 + 1 * x.val = x.val; omega
  | ⟨1, _⟩ => show win1_0.index t 1 * win1_0.size 1 + 1 * y.val = y.val; omega
  | ⟨2, _⟩ => show win1_0.index t 2 * win1_0.size 2 + 1 * z.val = z.val; omega

/-- Where window 1 of kernel 1's blocks start. -/
theorem at1_1 : ∀ t : Fin cfg1.N, win1_1.index t 0 * win1_1.size 0 = 0 ∧ win1_1.index t 1 * win1_1.size 1 = 0 ∧ win1_1.index t 2 * win1_1.size 2 = 0 := by decide +kernel

/-- An input block at an index is its array at the matching index. -/
theorem blk1_1 (t : Fin cfg1.N) (x : Fin 4) (y : Fin 16) (z : Fin 128) :
    (iblk1 V c 1 t : Vec Ideal S4x16x128 .f32) (ix3 x y z) = V c main_call0_v4_1 (ix3 x y z) := by
  obtain ⟨e0, e1, e2⟩ := at1_1 t
  refine congrArg (V c main_call0_v4_1) (funext fun a => Fin.ext ?_)
  match a with
  | ⟨0, _⟩ => show win1_1.index t 0 * win1_1.size 0 + 1 * x.val = x.val; omega
  | ⟨1, _⟩ => show win1_1.index t 1 * win1_1.size 1 + 1 * y.val = y.val; omega
  | ⟨2, _⟩ => show win1_1.index t 2 * win1_1.size 2 + 1 * z.val = z.val; omega

/-- Where window 2 of kernel 1's blocks start. -/
theorem at1_2 : ∀ t : Fin cfg1.N, win1_2.index t 0 * win1_2.size 0 = 0 ∧ win1_2.index t 1 * win1_2.size 1 = 0 ∧ win1_2.index t 2 * win1_2.size 2 = 0 := by decide +kernel

/-- An input block at an index is its array at the matching index. -/
theorem blk1_2 (t : Fin cfg1.N) (x : Fin 4) (y : Fin 1) (z : Fin 128) :
    (iblk1 V c 2 t : Vec Ideal S4x1x128 .f32) (ix3 x y z) = V c main_call0_v4_2 (ix3 x y z) := by
  obtain ⟨e0, e1, e2⟩ := at1_2 t
  refine congrArg (V c main_call0_v4_2) (funext fun a => Fin.ext ?_)
  match a with
  | ⟨0, _⟩ => show win1_2.index t 0 * win1_2.size 0 + 1 * x.val = x.val; omega
  | ⟨1, _⟩ => show win1_2.index t 1 * win1_2.size 1 + 1 * y.val = y.val; omega
  | ⟨2, _⟩ => show win1_2.index t 2 * win1_2.size 2 + 1 * z.val = z.val; omega

/-- Where window 3 of kernel 1's blocks start. -/
theorem at1_3 : ∀ t : Fin cfg1.N, win1_3.index t 0 * win1_3.size 0 = 0 ∧ win1_3.index t 1 * win1_3.size 1 = 0 := by decide +kernel

/-- An input block at an index is its array at the matching index. -/
theorem blk1_3 (t : Fin cfg1.N) (x : Fin 128) (y : Fin 128) :
    (iblk1 V c 3 t : Vec Ideal S128x128 .f32) (ix2 x y) = V c main_arg3 (ix2 x y) := by
  obtain ⟨e0, e1⟩ := at1_3 t
  refine congrArg (V c main_arg3) (funext fun a => Fin.ext ?_)
  match a with
  | ⟨0, _⟩ => show win1_3.index t 0 * win1_3.size 0 + 1 * x.val = x.val; omega
  | ⟨1, _⟩ => show win1_3.index t 1 * win1_3.size 1 + 1 * y.val = y.val; omega

/-- Where window 4 of kernel 1's blocks start. -/
theorem at1_4 : ∀ t : Fin cfg1.N, win1_4.index t 0 * win1_4.size 0 = 0 ∧ win1_4.index t 1 * win1_4.size 1 = 0 := by decide +kernel

/-- An input block at an index is its array at the matching index. -/
theorem blk1_4 (t : Fin cfg1.N) (x : Fin 1) (y : Fin 128) :
    (iblk1 V c 4 t : Vec Ideal S1x128 .f32) (ix2 x y) = V c main_call0_v5 (ix2 x y) := by
  obtain ⟨e0, e1⟩ := at1_4 t
  refine congrArg (V c main_call0_v5) (funext fun a => Fin.ext ?_)
  match a with
  | ⟨0, _⟩ => show win1_4.index t 0 * win1_4.size 0 + 1 * x.val = x.val; omega
  | ⟨1, _⟩ => show win1_4.index t 1 * win1_4.size 1 + 1 * y.val = y.val; omega

/-- Where window 5 of kernel 1's blocks start. -/
theorem at1_5 : ∀ t : Fin cfg1.N, win1_5.index t 0 * win1_5.size 0 = 0 ∧ win1_5.index t 1 * win1_5.size 1 = 0 := by decide +kernel

/-- An input block at an index is its array at the matching index. -/
theorem blk1_5 (t : Fin cfg1.N) (x : Fin 1) (y : Fin 128) :
    (iblk1 V c 5 t : Vec Ideal S1x128 .f32) (ix2 x y) = V c main_call0_v6 (ix2 x y) := by
  obtain ⟨e0, e1⟩ := at1_5 t
  refine congrArg (V c main_call0_v6) (funext fun a => Fin.ext ?_)
  match a with
  | ⟨0, _⟩ => show win1_5.index t 0 * win1_5.size 0 + 1 * x.val = x.val; omega
  | ⟨1, _⟩ => show win1_5.index t 1 * win1_5.size 1 + 1 * y.val = y.val; omega

/-- Where window 6 of kernel 1's blocks start. -/
theorem at1_6 : ∀ t : Fin cfg1.N, win1_6.index t 0 * win1_6.size 0 = 0 ∧ win1_6.index t 1 * win1_6.size 1 = 0 ∧ win1_6.index t 2 * win1_6.size 2 = 0 := by decide +kernel

/-- Reading an array through an output block is reading it at the matching index. -/
theorem blk1_6 (A : S4x16x128.Idx → EReal) (t : Fin cfg1.N) (x : Fin 4) (y : Fin 16) (z : Fin 128) :
    (((cfg1.win 6).blk t).view.read (Elt Ideal) A : Vec Ideal S4x16x128 .f32) (ix3 x y z) = A (ix3 x y z) := by
  obtain ⟨e0, e1, e2⟩ := at1_6 t
  refine congrArg A (funext fun a => Fin.ext ?_)
  match a with
  | ⟨0, _⟩ => show win1_6.index t 0 * win1_6.size 0 + 1 * x.val = x.val; omega
  | ⟨1, _⟩ => show win1_6.index t 1 * win1_6.size 1 + 1 * y.val = y.val; omega
  | ⟨2, _⟩ => show win1_6.index t 2 * win1_6.size 2 + 1 * z.val = z.val; omega

/-- The output blocks tile the array. -/
theorem cov1_6 (i : S4x16x128.Idx) :
    ∃ t : Fin cfg1.N, (cfg1.win 6).flush t = true ∧ i ∈ ((cfg1.win 6).blk t).view.set := by
  refine ⟨⟨0, by show _ < grid1.N; rw [N_1]; omega⟩, flush1_6 _, ?_⟩
  generalize ht : (⟨_, _⟩ : Fin cfg1.N) = t
  have hv := congrArg Fin.val ht
  dsimp only at hv
  obtain ⟨e0, e1, e2⟩ := at1_6 t
  show i ∈ ((View.whole main_call0_v7_0).slice (win1_6.rect t)).set
  rw [View.set_slice_whole, Rect.mem_set_unit]
  intro a
  match a with
  | ⟨0, _⟩ =>
    have h : (i 0).val < 4 := (i 0).isLt
    show win1_6.index t 0 * win1_6.size 0 ≤ (i 0).val ∧ (i 0).val < win1_6.index t 0 * win1_6.size 0 + 4
    omega
  | ⟨1, _⟩ =>
    have h : (i 1).val < 16 := (i 1).isLt
    show win1_6.index t 1 * win1_6.size 1 ≤ (i 1).val ∧ (i 1).val < win1_6.index t 1 * win1_6.size 1 + 16
    omega
  | ⟨2, _⟩ =>
    have h : (i 2).val < 128 := (i 2).isLt
    show win1_6.index t 2 * win1_6.size 2 ≤ (i 2).val ∧ (i 2).val < win1_6.index t 2 * win1_6.size 2 + 128
    omega

/-- Where window 7 of kernel 1's blocks start. -/
theorem at1_7 : ∀ t : Fin cfg1.N, win1_7.index t 0 * win1_7.size 0 = 0 ∧ win1_7.index t 1 * win1_7.size 1 = 0 := by decide +kernel

/-- Reading an array through an output block is reading it at the matching index. -/
theorem blk1_7 (A : S1x128.Idx → EReal) (t : Fin cfg1.N) (x : Fin 1) (y : Fin 128) :
    (((cfg1.win 7).blk t).view.read (Elt Ideal) A : Vec Ideal S1x128 .f32) (ix2 x y) = A (ix2 x y) := by
  obtain ⟨e0, e1⟩ := at1_7 t
  refine congrArg A (funext fun a => Fin.ext ?_)
  match a with
  | ⟨0, _⟩ => show win1_7.index t 0 * win1_7.size 0 + 1 * x.val = x.val; omega
  | ⟨1, _⟩ => show win1_7.index t 1 * win1_7.size 1 + 1 * y.val = y.val; omega

/-- The output blocks tile the array. -/
theorem cov1_7 (i : S1x128.Idx) :
    ∃ t : Fin cfg1.N, (cfg1.win 7).flush t = true ∧ i ∈ ((cfg1.win 7).blk t).view.set := by
  refine ⟨⟨0, by show _ < grid1.N; rw [N_1]; omega⟩, flush1_7 _, ?_⟩
  generalize ht : (⟨_, _⟩ : Fin cfg1.N) = t
  have hv := congrArg Fin.val ht
  dsimp only at hv
  obtain ⟨e0, e1⟩ := at1_7 t
  show i ∈ ((View.whole main_call0_v7_1).slice (win1_7.rect t)).set
  rw [View.set_slice_whole, Rect.mem_set_unit]
  intro a
  match a with
  | ⟨0, _⟩ =>
    have h : (i 0).val < 1 := (i 0).isLt
    show win1_7.index t 0 * win1_7.size 0 ≤ (i 0).val ∧ (i 0).val < win1_7.index t 0 * win1_7.size 0 + 1
    omega
  | ⟨1, _⟩ =>
    have h : (i 1).val < 128 := (i 1).isLt
    show win1_7.index t 1 * win1_7.size 1 ≤ (i 1).val ∧ (i 1).val < win1_7.index t 1 * win1_7.size 1 + 128
    omega

/-- Where window 0 of kernel 2's blocks start. -/
theorem at2_0 : ∀ t : Fin cfg2.N, win2_0.index t 0 * win2_0.size 0 = t.val ∧ win2_0.index t 1 * win2_0.size 1 = 0 ∧ win2_0.index t 2 * win2_0.size 2 = 0 := by decide +kernel

/-- An input block at an index is its array at the matching index. -/
theorem blk2_0 (t : Fin cfg2.N) (b : Fin 4) (hb : b.val = t.val) (y : Fin 128) (z : Fin 4096) :
    (iblk2 V c 0 t : Vec Ideal S1x128x4096 .f32) (ix3 0 y z) = V c main_call0_v3 (ix3 b y z) := by
  obtain ⟨e0, e1, e2⟩ := at2_0 t
  refine congrArg (V c main_call0_v3) (funext fun a => Fin.ext ?_)
  match a with
  | ⟨0, _⟩ => show win2_0.index t 0 * win2_0.size 0 + 1 * 0 = b.val; omega
  | ⟨1, _⟩ => show win2_0.index t 1 * win2_0.size 1 + 1 * y.val = y.val; omega
  | ⟨2, _⟩ => show win2_0.index t 2 * win2_0.size 2 + 1 * z.val = z.val; omega

/-- Where window 1 of kernel 2's blocks start. -/
theorem at2_1 : ∀ t : Fin cfg2.N, win2_1.index t 0 * win2_1.size 0 = t.val ∧ win2_1.index t 1 * win2_1.size 1 = 0 ∧ win2_1.index t 2 * win2_1.size 2 = 0 := by decide +kernel

/-- An input block at an index is its array at the matching index. -/
theorem blk2_1 (t : Fin cfg2.N) (b : Fin 4) (hb : b.val = t.val) (y : Fin 1) (z : Fin 4096) :
    (iblk2 V c 1 t : Vec Ideal S1x1x4096 .i32) (ix3 0 y z) = V c main_call0_v2 (ix3 b y z) := by
  obtain ⟨e0, e1, e2⟩ := at2_1 t
  refine congrArg (V c main_call0_v2) (funext fun a => Fin.ext ?_)
  match a with
  | ⟨0, _⟩ => show win2_1.index t 0 * win2_1.size 0 + 1 * 0 = b.val; omega
  | ⟨1, _⟩ => show win2_1.index t 1 * win2_1.size 1 + 1 * y.val = y.val; omega
  | ⟨2, _⟩ => show win2_1.index t 2 * win2_1.size 2 + 1 * z.val = z.val; omega

/-- Where window 2 of kernel 2's blocks start. -/
theorem at2_2 : ∀ t : Fin cfg2.N, win2_2.index t 0 * win2_2.size 0 = 0 ∧ win2_2.index t 1 * win2_2.size 1 = 0 := by decide +kernel

/-- An input block at an index is its array at the matching index. -/
theorem blk2_2 (t : Fin cfg2.N) (x : Fin 128) (y : Fin 128) :
    (iblk2 V c 2 t : Vec Ideal S128x128 .f32) (ix2 x y) = V c main_arg2 (ix2 x y) := by
  obtain ⟨e0, e1⟩ := at2_2 t
  refine congrArg (V c main_arg2) (funext fun a => Fin.ext ?_)
  match a with
  | ⟨0, _⟩ => show win2_2.index t 0 * win2_2.size 0 + 1 * x.val = x.val; omega
  | ⟨1, _⟩ => show win2_2.index t 1 * win2_2.size 1 + 1 * y.val = y.val; omega

/-- Where window 3 of kernel 2's blocks start. -/
theorem at2_3 : ∀ t : Fin cfg2.N, win2_3.index t 0 * win2_3.size 0 = t.val ∧ win2_3.index t 1 * win2_3.size 1 = 0 ∧ win2_3.index t 2 * win2_3.size 2 = 0 := by decide +kernel

/-- An input block at an index is its array at the matching index. -/
theorem blk2_3 (t : Fin cfg2.N) (b : Fin 4) (hb : b.val = t.val) (y : Fin 16) (z : Fin 128) :
    (iblk2 V c 3 t : Vec Ideal S1x16x128 .f32) (ix3 0 y z) = V c main_call0_v7_0 (ix3 b y z) := by
  obtain ⟨e0, e1, e2⟩ := at2_3 t
  refine congrArg (V c main_call0_v7_0) (funext fun a => Fin.ext ?_)
  match a with
  | ⟨0, _⟩ => show win2_3.index t 0 * win2_3.size 0 + 1 * 0 = b.val; omega
  | ⟨1, _⟩ => show win2_3.index t 1 * win2_3.size 1 + 1 * y.val = y.val; omega
  | ⟨2, _⟩ => show win2_3.index t 2 * win2_3.size 2 + 1 * z.val = z.val; omega

/-- Where window 4 of kernel 2's blocks start. -/
theorem at2_4 : ∀ t : Fin cfg2.N, win2_4.index t 0 * win2_4.size 0 = 0 ∧ win2_4.index t 1 * win2_4.size 1 = 0 := by decide +kernel

/-- An input block at an index is its array at the matching index. -/
theorem blk2_4 (t : Fin cfg2.N) (x : Fin 1) (y : Fin 128) :
    (iblk2 V c 4 t : Vec Ideal S1x128 .f32) (ix2 x y) = V c main_call0_v7_1 (ix2 x y) := by
  obtain ⟨e0, e1⟩ := at2_4 t
  refine congrArg (V c main_call0_v7_1) (funext fun a => Fin.ext ?_)
  match a with
  | ⟨0, _⟩ => show win2_4.index t 0 * win2_4.size 0 + 1 * x.val = x.val; omega
  | ⟨1, _⟩ => show win2_4.index t 1 * win2_4.size 1 + 1 * y.val = y.val; omega

/-- Where window 5 of kernel 2's blocks start. -/
theorem at2_5 : ∀ t : Fin cfg2.N, win2_5.index t 0 * win2_5.size 0 = t.val ∧ win2_5.index t 1 * win2_5.size 1 = 0 ∧ win2_5.index t 2 * win2_5.size 2 = 0 := by decide +kernel

/-- Reading an array through an output block is reading it at the matching index. -/
theorem blk2_5 (A : S4x128x4096.Idx → EReal) (t : Fin cfg2.N) (b : Fin 4) (hb : b.val = t.val) (y : Fin 128) (z : Fin 4096) :
    (((cfg2.win 5).blk t).view.read (Elt Ideal) A : Vec Ideal S1x128x4096 .f32) (ix3 0 y z) = A (ix3 b y z) := by
  obtain ⟨e0, e1, e2⟩ := at2_5 t
  refine congrArg A (funext fun a => Fin.ext ?_)
  match a with
  | ⟨0, _⟩ => show win2_5.index t 0 * win2_5.size 0 + 1 * 0 = b.val; omega
  | ⟨1, _⟩ => show win2_5.index t 1 * win2_5.size 1 + 1 * y.val = y.val; omega
  | ⟨2, _⟩ => show win2_5.index t 2 * win2_5.size 2 + 1 * z.val = z.val; omega

/-- The output blocks tile the array. -/
theorem cov2_5 (i : S4x128x4096.Idx) :
    ∃ t : Fin cfg2.N, (cfg2.win 5).flush t = true ∧ i ∈ ((cfg2.win 5).blk t).view.set := by
  refine ⟨⟨(i 0).val, by show _ < grid2.N; rw [N_2]; exact (i 0).isLt⟩, flush2_5 _, ?_⟩
  generalize ht : (⟨_, _⟩ : Fin cfg2.N) = t
  have hv := congrArg Fin.val ht
  dsimp only at hv
  obtain ⟨e0, e1, e2⟩ := at2_5 t
  show i ∈ ((View.whole main_call0_v8).slice (win2_5.rect t)).set
  rw [View.set_slice_whole, Rect.mem_set_unit]
  intro a
  match a with
  | ⟨0, _⟩ =>
    have h : (i 0).val < 4 := (i 0).isLt
    show win2_5.index t 0 * win2_5.size 0 ≤ (i 0).val ∧ (i 0).val < win2_5.index t 0 * win2_5.size 0 + 1
    omega
  | ⟨1, _⟩ =>
    have h : (i 1).val < 128 := (i 1).isLt
    show win2_5.index t 1 * win2_5.size 1 ≤ (i 1).val ∧ (i 1).val < win2_5.index t 1 * win2_5.size 1 + 128
    omega
  | ⟨2, _⟩ =>
    have h : (i 2).val < 4096 := (i 2).isLt
    show win2_5.index t 2 * win2_5.size 2 ≤ (i 2).val ∧ (i 2).val < win2_5.index t 2 * win2_5.size 2 + 4096
    omega

end Cert.KernelIdeal.Val

end
-- ==== Proof.Regions.lean ====
/- What each kernel's output arrays hold when it ends, given what its input arrays hold when it starts. -/
module

public import proofs.«01_k».proof.Proof.Windows
public import Idealize.ShloMosaic.Lib.Pipeline.Value

@[expose] public section

set_option maxRecDepth 16384

noncomputable section

namespace Cert.KernelIdeal.Val

open Idealize.ShloMosaic Idealize.ShloMosaic.TcCoe Cert.KernelIdeal Cert.KernelIdeal.Gen
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b)) (c : Dev nD)
variable {X : Fin 4 → Fin 128 → Fin 4096 → ℝ} {lab : Fin 4 → Fin 4096 → Fin 16} {w W : Fin 128 → Fin 128 → ℝ}
  {g : Fin 128 → ℝ} {bet : Fin 128 → EReal}

/-- The image a point of the first kernel's grid works on. -/
abbrev img0 (t : Fin cfg0.N) : Fin 4 := ⟨t.val, N_0 ▸ t.isLt⟩
/-- The image a point of the third kernel's grid works on. -/
abbrev img2 (t : Fin cfg2.N) : Fin 4 := ⟨t.val, N_2 ▸ t.isLt⟩

section stats
variable (hx : ∀ b cc p, V c main_call0_v3 (ix3 b cc p) = ((X b cc p : ℝ) : EReal))
  (hl : ∀ b p, V c main_call0_v2 (ix3 b 0 p) = BitVec.ofNat 32 (lab b p))
  (hw : ∀ cc o, V c main_arg2 (ix2 cc o) = ((w cc o : ℝ) : EReal))

include hx hl hw in
/-- The class sums the first kernel leaves. -/
theorem arr0_3 : (dat0 V c).arrAt 3 cfg0.N
    = fun i : S4x16x128.Idx => ((Spec.sums X lab w (i 0) (i 1) (i 2) : ℝ) : EReal) := by
  refine (dat0 V c).arrAt_eq_of_cover 3 _ (fun t _ => ?_) cov0_3
  show (cfg0.win 3).cut (grid0.coords t) ((dat0 V c).after 3 t) = _
  rw [after0_3]
  refine funext fun (j : S1x16x128.Idx) => ?_
  obtain ⟨z, k, o, rfl⟩ : ∃ z k o, j = ix3 z k o := ⟨j 0, j 1, j 2, eq_ix3 j⟩
  obtain rfl : z = 0 := Subsingleton.elim _ _
  refine Eq.trans ?_ (blk0_3 _ t (img0 t) rfl k o).symm
  show out0_3 _ _ _ (ix3 0 k o) = _
  unfold out0_3
  rw [View.canon_unit_zero hz3, View.ld_unit_zero hz3, View.ld_unit_zero hz2, View.ld_unit_zero hz3]
  exact pay3_eq (img0 t) (fun cc p => (blk0_0 V c t _ rfl cc p).trans (hx _ _ _)) (fun o cc => (blk0_2 V c t cc o).trans (hw _ _))
    (fun p => (blk0_1 V c t _ rfl 0 p).trans (hl _ _)) k o

include hl in
/-- The class counts the first kernel leaves. -/
theorem arr0_4 : (dat0 V c).arrAt 4 cfg0.N
    = fun i : S4x16x128.Idx => ((Spec.cnt lab (i 0) (i 1) : ℝ) : EReal) := by
  refine (dat0 V c).arrAt_eq_of_cover 4 _ (fun t _ => ?_) cov0_4
  show (cfg0.win 4).cut (grid0.coords t) ((dat0 V c).after 4 t) = _
  rw [after0_4]
  refine funext fun (j : S1x16x128.Idx) => ?_
  obtain ⟨z, k, o, rfl⟩ : ∃ z k o, j = ix3 z k o := ⟨j 0, j 1, j 2, eq_ix3 j⟩
  obtain rfl : z = 0 := Subsingleton.elim _ _
  refine Eq.trans ?_ (blk0_4 _ t (img0 t) rfl k o).symm
  show out0_4 _ _ _ (ix3 0 k o) = _
  unfold out0_4
  rw [View.canon_unit_zero hz3, View.ld_unit_zero hz3]
  exact pay4_eq (img0 t) (fun p => (blk0_1 V c t _ rfl 0 p).trans (hl _ _)) k o

include hx hw in
/-- The sums of squares the first kernel leaves. -/
theorem arr0_5 : (dat0 V c).arrAt 5 cfg0.N
    = fun i : S4x1x128.Idx => ((Spec.sumsq X w (i 0) (i 2) : ℝ) : EReal) := by
  refine (dat0 V c).arrAt_eq_of_cover 5 _ (fun t _ => ?_) cov0_5
  show (cfg0.win 5).cut (grid0.coords t) ((dat0 V c).after 5 t) = _
  rw [after0_5]
  refine funext fun (j : S1x1x128.Idx) => ?_
  obtain ⟨z, k, o, rfl⟩ : ∃ z k o, j = ix3 z k o := ⟨j 0, j 1, j 2, eq_ix3 j⟩
  obtain rfl : z = 0 := Subsingleton.elim _ _
  obtain rfl : k = 0 := Subsingleton.elim _ _
  refine Eq.trans ?_ (blk0_5 _ t (img0 t) rfl 0 o).symm
  show out0_5 _ _ _ (ix3 0 0 o) = _
  unfold out0_5
  rw [View.canon_unit_zero hz3, View.ld_unit_zero hz3, View.ld_unit_zero hz2]
  exact pay5_eq (img0 t) (fun cc p => (blk0_0 V c t _ rfl cc p).trans (hx _ _ _)) (fun o cc => (blk0_2 V c t cc o).trans (hw _ _)) o

end stats

section adj
variable (hs : ∀ b k o, V c main_call0_v4_0 (ix3 b k o) = ((Spec.sums X lab w b k o : ℝ) : EReal))
  (hc : ∀ b k o, V c main_call0_v4_1 (ix3 b k o) = ((Spec.cnt lab b k : ℝ) : EReal))
  (hq : ∀ b o, V c main_call0_v4_2 (ix3 b 0 o) = ((Spec.sumsq X w b o : ℝ) : EReal))
  (hW : ∀ r cc, V c main_arg3 (ix2 r cc) = ((W r cc : ℝ) : EReal))
  (hg : ∀ o, V c main_call0_v5 (ix2 0 o) = ((g o : ℝ) : EReal))
  (hb : ∀ o, V c main_call0_v6 (ix2 0 o) = bet o)

include hs hc hq hW hg hb in
/-- The scaled and shifted weighted means the second kernel leaves. -/
theorem arr1_6 : (dat1 V c).arrAt 6 cfg1.N
    = fun i : S4x16x128.Idx => ((Spec.adjm X lab w W (i 0) (i 1) (i 2) * Spec.scale X lab w W g (i 2) : ℝ) : EReal)
      + (bet (i 2) - ((Spec.mu X lab w W (i 2) * Spec.scale X lab w W g (i 2) : ℝ) : EReal)) := by
  refine (dat1 V c).arrAt_eq_of_cover 6 _ (fun t _ => ?_) cov1_6
  show (cfg1.win 6).cut (grid1.coords t) ((dat1 V c).after 6 t) = _
  rw [after1_6]
  refine funext fun (j : S4x16x128.Idx) => ?_
  obtain ⟨b, k, o, rfl⟩ : ∃ b k o, j = ix3 b k o := ⟨j 0, j 1, j 2, eq_ix3 j⟩
  refine Eq.trans ?_ (blk1_6 _ t b k o).symm
  show out1_6 _ _ _ _ _ _ (ix3 b k o) = _
  unfold_out out1_6
  rw [View.canon_unit_zero hz3]
  repeat first | rw [View.ld_unit_zero hz3] | rw [View.ld_unit_zero hz2]
  refine (pay2_1_eq (fun b k o => (blk1_0 V c t b k o).trans (hs _ _ _)) (fun b k o => (blk1_1 V c t b k o).trans (hc _ _ _))
    (fun b o => (blk1_2 V c t b 0 o).trans (hq _ _)) (fun r cc => (blk1_3 V c t r cc).trans (hW _ _))
    (fun o => (blk1_4 V c t 0 o).trans (hg _)) b k o).trans ?_
  rw [(blk1_5 V c t 0 o).trans (hb _)]
  rfl

include hs hc hq hW hg in
/-- The normalisation factors the second kernel leaves. -/
theorem arr1_7 : (dat1 V c).arrAt 7 cfg1.N
    = fun i : S1x128.Idx => ((Spec.scale X lab w W g (i 1) : ℝ) : EReal) := by
  refine (dat1 V c).arrAt_eq_of_cover 7 _ (fun t _ => ?_) cov1_7
  show (cfg1.win 7).cut (grid1.coords t) ((dat1 V c).after 7 t) = _
  rw [after1_7]
  refine funext fun (j : S1x128.Idx) => ?_
  obtain ⟨z, o, rfl⟩ : ∃ z o, j = ix2 z o := ⟨j 0, j 1, eq_ix2 j⟩
  obtain rfl : z = 0 := Subsingleton.elim _ _
  refine Eq.trans ?_ (blk1_7 _ t 0 o).symm
  show out1_7 _ _ _ _ _ _ (ix2 0 o) = _
  unfold_out out1_7
  rw [View.canon_unit_zero hz2]
  repeat first | rw [View.ld_unit_zero hz3] | rw [View.ld_unit_zero hz2]
  exact pay3_1_eq (fun b k o => (blk1_0 V c t b k o).trans (hs _ _ _)) (fun b k o => (blk1_1 V c t b k o).trans (hc _ _ _))
    (fun b o => (blk1_2 V c t b 0 o).trans (hq _ _)) (fun r cc => (blk1_3 V c t r cc).trans (hW _ _))
    (fun o => (blk1_4 V c t 0 o).trans (hg _)) o

end adj

section apply
variable (hx : ∀ b cc p, V c main_call0_v3 (ix3 b cc p) = ((X b cc p : ℝ) : EReal))
  (hl : ∀ b p, V c main_call0_v2 (ix3 b 0 p) = BitVec.ofNat 32 (lab b p))
  (hw : ∀ cc o, V c main_arg2 (ix2 cc o) = ((w cc o : ℝ) : EReal))
  (ha : ∀ b k o, V c main_call0_v7_0 (ix3 b k o)
    = ((Spec.adjm X lab w W b k o * Spec.scale X lab w W g o : ℝ) : EReal)
      + (bet o - ((Spec.mu X lab w W o * Spec.scale X lab w W g o : ℝ) : EReal)))
  (hsc : ∀ o, V c main_call0_v7_1 (ix2 0 o) = ((Spec.scale X lab w W g o : ℝ) : EReal))

include hx hl hw ha hsc in
/-- The normalised feature map plus the bias the third kernel leaves. -/
theorem arr2_5 : (dat2 V c).arrAt 5 cfg2.N
    = fun i : S4x128x4096.Idx => ((Spec.normed X lab w W g (i 0) (i 1) (i 2) : ℝ) : EReal) + bet (i 1) := by
  refine (dat2 V c).arrAt_eq_of_cover 5 _ (fun t _ => ?_) cov2_5
  show (cfg2.win 5).cut (grid2.coords t) ((dat2 V c).after 5 t) = _
  rw [after2_5]
  refine funext fun (j : S1x128x4096.Idx) => ?_
  obtain ⟨z, o, p, rfl⟩ : ∃ z o p, j = ix3 z o p := ⟨j 0, j 1, j 2, eq_ix3 j⟩
  obtain rfl : z = 0 := Subsingleton.elim _ _
  refine Eq.trans ?_ (blk2_5 _ t (img2 t) rfl o p).symm
  show out2_5 _ _ _ _ _ (ix3 0 o p) = _
  unfold out2_5
  rw [View.canon_unit_zero hz3]
  repeat first | rw [View.ld_unit_zero hz3] | rw [View.ld_unit_zero hz2]
  exact pay1_2_eq (img2 t) (fun cc p => (blk2_0 V c t _ rfl cc p).trans (hx _ _ _)) (fun o cc => (blk2_2 V c t cc o).trans (hw _ _))
    (fun p => (blk2_1 V c t _ rfl 0 p).trans (hl _ _)) (fun k o => (blk2_3 V c t _ rfl k o).trans (ha _ _ _))
    (fun o => (blk2_4 V c t 0 o).trans (hsc _)) o p

end apply

end Cert.KernelIdeal.Val

end
-- ==== Proof.Pixels.lean ====
/- The pixels of an image by row and column, and the same pixels in a row. -/
module

public import Idealize.ShloMosaic.Lib.Pointwise
public import Mathlib.Algebra.BigOperators.Fin

@[expose] public section

noncomputable section

namespace Cert.Spec

/-- Pixel `(y, x)`'s place when the rows of a 64 × 64 image are laid end to end. -/
def pix (y x : Fin 64) : Fin 4096 := ⟨y.val * 64 + x.val, by omega⟩
/-- The row of the pixel at place `p`. -/
def row (p : Fin 4096) : Fin 64 := ⟨p.val / 64, by omega⟩
/-- The column of the pixel at place `p`. -/
def col (p : Fin 4096) : Fin 64 := ⟨p.val % 64, by omega⟩

/-- A place is that of its row and column. -/
theorem pix_row_col (p : Fin 4096) : pix (row p) (col p) = p := Fin.ext (by simp only [pix, row, col]; omega)
/-- The row of a pixel's place. -/
theorem row_pix (y x : Fin 64) : row (pix y x) = y := Fin.ext (by simp only [pix, row]; omega)
/-- The column of a pixel's place. -/
theorem col_pix (y x : Fin 64) : col (pix y x) = x := Fin.ext (by simp only [pix, col]; omega)

/-- Places and (row, column) pairs correspond one to one. -/
def pixels : Fin 64 × Fin 64 ≃ Fin 4096 where
  toFun q := pix q.1 q.2
  invFun p := (row p, col p)
  left_inv q := Prod.ext (row_pix _ _) (col_pix _ _)
  right_inv p := pix_row_col p

/-- A sum over rows and columns is the sum over the places. -/
theorem sum_pix {M : Type*} [AddCommMonoid M] (f : Fin 4096 → M) : ∑ y, ∑ x, f (pix y x) = ∑ p, f p := by
  rw [← Fintype.sum_prod_type']
  exact Fintype.sum_equiv pixels _ _ (fun _ => rfl)

end Cert.Spec

end
-- ==== Proof.KernelValue.lean ====
/- What the kernel returns, given real arguments and labels among the sixteen classes. -/
module

public import proofs.«01_k».proof.Proof.Regions
public import proofs.«01_k».proof.Proof.Pixels
public import Idealize.ShloMosaic.Lib.StableHlo.Run

@[expose] public section

set_option maxRecDepth 16384

noncomputable section

namespace Cert.KernelIdeal.Val

open Idealize.ShloMosaic Idealize.ShloMosaic.TcCoe Idealize.ShloMosaic.StableHlo Cert.KernelIdeal Cert.KernelIdeal.Gen
open Cert.Spec (pix row col)

variable (m : (ℓ : Loc nD τ sig) → Buf (Elt Ideal) ℓ) (ρ : Dev nD → PrngReg) (c : Dev nD)
variable {X : Fin 4 → Fin 128 → Fin 4096 → ℝ} {lab : Fin 4 → Fin 4096 → Fin 16} {w W : Fin 128 → Fin 128 → ℝ}
  {g : Fin 128 → ℝ} {bet : Fin 128 → EReal}

/-- The images with their pixels in a row, as the first and third kernels read them. -/
theorem pixels_read (b : Fin 4) (cc : Fin 128) (p : Fin 4096) :
    W1 m ρ c (Proc.devRef .tc main_call0_v3) (ix3 b cc p) = m ((c : Thread nD τ).loc main_arg0) (ix4 b cc (row p) (col p)) := by
  rw [← W0_args m ρ c main_arg0 (by decide)]
  unfold W1
  after_results_simp
  show shapeCast _ _ _ (ix3 b cc p) = _
  pointwise
  rfl

/-- The label of pixel `(y, x)` of image `b` in the launch memory. -/
abbrev label (b : Fin 4) (y x : Fin 64) : BitVec 32 := m ((c : Thread nD τ).loc main_arg1) (ix4 b 0 y x)

/-- The labels less one, with their pixels in a row. -/
theorem labels_read (b : Fin 4) (p : Fin 4096) :
    W1 m ρ c (Proc.devRef .tc main_call0_v2) (ix3 b 0 p) = label m c b (row p) (col p) - 1#32 := by
  unfold label
  rw [← W0_args m ρ c main_arg1 (by decide)]
  unfold W1
  after_results_simp
  show subi (shapeCast S4x1x4096 (W0 m ρ c (Proc.devRef .tc main_arg1) : Vec Ideal S4x1x64x64 .i32) _)
    (broadcastInDim S4x1x4096 ![] bcast_S_S4x1x4096 (constantI S_ 32 1#32)) (ix3 b 0 p) = _
  pointwise
  rfl

/-- The scale row is the scale vector. -/
theorem gamma_read (o : Fin 128) :
    W3 m ρ c (Proc.devRef .tc main_call0_v5) (ix2 0 o) = m ((c : Thread nD τ).loc main_arg4) (ix1 o) := by
  rw [← W2_args m ρ c main_arg4 (by decide)]
  unfold W3
  after_results_simp
  show shapeCast _ _ _ (ix2 0 o) = _
  pointwise

/-- The bias row is the bias vector. -/
theorem beta_read (o : Fin 128) :
    W3 m ρ c (Proc.devRef .tc main_call0_v6) (ix2 0 o) = m ((c : Thread nD τ).loc main_arg5) (ix1 o) := by
  rw [← W2_args m ρ c main_arg5 (by decide)]
  unfold W3
  after_results_simp
  show shapeCast _ _ _ (ix2 0 o) = _
  pointwise

/-- The result's pixels in rows and columns. -/
theorem result_read (b : Fin 4) (o : Fin 128) (y x : Fin 64) :
    W6 m ρ c (Proc.devRef .tc main_v0) (ix4 b o y x) = W5 m ρ c (Proc.devRef .tc main_call0_v8) (ix3 b o (pix y x)) := by
  unfold W6
  after_results_simp
  show shapeCast _ _ _ (ix4 b o y x) = _
  pointwise
  rfl

section value
variable (hx : ∀ b cc y x, m ((c : Thread nD τ).loc main_arg0) (ix4 b cc y x) = ((X b cc (pix y x) : ℝ) : EReal))
  (hl : ∀ b y x, label m c b y x - 1#32 = BitVec.ofNat 32 (lab b (pix y x)))
  (hw : ∀ cc o, m ((c : Thread nD τ).loc main_arg2) (ix2 cc o) = ((w cc o : ℝ) : EReal))
  (hW : ∀ r cc, m ((c : Thread nD τ).loc main_arg3) (ix2 r cc) = ((W r cc : ℝ) : EReal))
  (hg : ∀ o, m ((c : Thread nD τ).loc main_arg4) (ix1 o) = ((g o : ℝ) : EReal))
  (hb : ∀ o, m ((c : Thread nD τ).loc main_arg5) (ix1 o) = bet o)

include hx in
/-- The images the first kernel reads. -/
theorem V1_x (b : Fin 4) (cc : Fin 128) (p : Fin 4096) : V1 m ρ c main_call0_v3 (ix3 b cc p) = ((X b cc p : ℝ) : EReal) :=
  (pixels_read m ρ c b cc p).trans ((hx _ _ _ _).trans (by rw [Spec.pix_row_col]))

include hl in
/-- The labels the first kernel reads. -/
theorem V1_l (b : Fin 4) (p : Fin 4096) : V1 m ρ c main_call0_v2 (ix3 b 0 p) = BitVec.ofNat 32 (lab b p) :=
  (labels_read m ρ c b p).trans ((hl _ _ _).trans (by rw [Spec.pix_row_col]))

include hw in
/-- The weights the first kernel reads. -/
theorem V1_w (cc o : Fin 128) : V1 m ρ c main_arg2 (ix2 cc o) = ((w cc o : ℝ) : EReal) :=
  (congrFun (W1_args m ρ c main_arg2 (by decide)) _).trans (hw cc o)

include hx hl hw in
/-- The class sums the second kernel reads. -/
theorem V3_sums (b : Fin 4) (k : Fin 16) (o : Fin 128) :
    V3 m ρ c main_call0_v4_0 (ix3 b k o) = ((Spec.sums X lab w b k o : ℝ) : EReal) :=
  (congrFun ((W3_of m ρ c main_call0_v4_0 (by decide)).trans ((W2_arr m ρ c 3).trans
    (arr0_3 (V1 m ρ) c (V1_x m ρ c hx) (V1_l m ρ c hl) (V1_w m ρ c hw)))) (ix3 b k o)).trans rfl

include hl in
/-- The class counts the second kernel reads. -/
theorem V3_cnt (b : Fin 4) (k : Fin 16) (o : Fin 128) :
    V3 m ρ c main_call0_v4_1 (ix3 b k o) = ((Spec.cnt lab b k : ℝ) : EReal) :=
  (congrFun ((W3_of m ρ c main_call0_v4_1 (by decide)).trans ((W2_arr m ρ c 4).trans
    (arr0_4 (V1 m ρ) c (V1_l m ρ c hl)))) (ix3 b k o)).trans rfl

include hx hw in
/-- The sums of squares the second kernel reads. -/
theorem V3_sumsq (b : Fin 4) (o : Fin 128) : V3 m ρ c main_call0_v4_2 (ix3 b 0 o) = ((Spec.sumsq X w b o : ℝ) : EReal) :=
  (congrFun ((W3_of m ρ c main_call0_v4_2 (by decide)).trans ((W2_arr m ρ c 5).trans
    (arr0_5 (V1 m ρ) c (V1_x m ρ c hx) (V1_w m ρ c hw)))) (ix3 b 0 o)).trans rfl

include hW in
/-- The metric's factor the second kernel reads. -/
theorem V3_W (r cc : Fin 128) : V3 m ρ c main_arg3 (ix2 r cc) = ((W r cc : ℝ) : EReal) :=
  (congrFun (W3_args m ρ c main_arg3 (by decide)) _).trans (hW r cc)

include hx hl hw hW hg hb in
/-- The scaled and shifted weighted means the third kernel reads. -/
theorem V4_adj (b : Fin 4) (k : Fin 16) (o : Fin 128) : V4 m ρ c main_call0_v7_0 (ix3 b k o)
    = ((Spec.adjm X lab w W b k o * Spec.scale X lab w W g o : ℝ) : EReal)
      + (bet o - ((Spec.mu X lab w W o * Spec.scale X lab w W g o : ℝ) : EReal)) :=
  (congrFun ((W4_arr m ρ c 6).trans (arr1_6 (V3 m ρ) c (V3_sums m ρ c hx hl hw) (V3_cnt m ρ c hl) (V3_sumsq m ρ c hx hw)
    (V3_W m ρ c hW) (fun o => (gamma_read m ρ c o).trans (hg o)) (fun o => (beta_read m ρ c o).trans (hb o)))) (ix3 b k o)).trans rfl

include hx hl hw hW hg in
/-- The normalisation factors the third kernel reads. -/
theorem V4_scale (o : Fin 128) : V4 m ρ c main_call0_v7_1 (ix2 0 o) = ((Spec.scale X lab w W g o : ℝ) : EReal) :=
  (congrFun ((W4_arr m ρ c 7).trans (arr1_7 (V3 m ρ) c (V3_sums m ρ c hx hl hw) (V3_cnt m ρ c hl) (V3_sumsq m ρ c hx hw)
    (V3_W m ρ c hW) (fun o => (gamma_read m ρ c o).trans (hg o)))) (ix2 0 o)).trans rfl

/-- The third kernel finds the images as the first one did. -/
theorem V4_keep (r : Ref sig .tc) (h4 : ∀ k : Fin cfg1.W, Pipeline.arrRef spec1 k = r → (cfg1.win k).isOut = false)
    (h3 : r ∉ hostOps1_W) (h2 : ∀ k : Fin cfg0.W, Pipeline.arrRef spec0 k = r → (cfg0.win k).isOut = false) :
    V4 m ρ c r = V1 m ρ c r :=
  (W4_of m ρ c r h4).trans ((W3_of m ρ c r h3).trans (W2_of m ρ c r h2))

include hx hl hw hW hg hb in
/-- The kernel's result: the normalised feature map plus the bias. -/
theorem result (b : Fin 4) (o : Fin 128) (y x : Fin 64) : W6 m ρ c (Proc.devRef .tc main_v0) (ix4 b o y x)
    = ((Spec.normed X lab w W g b o (pix y x) : ℝ) : EReal) + bet o := by
  refine (result_read m ρ c b o y x).trans ((congrFun ((W5_arr m ρ c 5).trans (arr2_5 (V4 m ρ) c ?_ ?_ ?_
    (V4_adj m ρ c hx hl hw hW hg hb) (V4_scale m ρ c hx hl hw hW hg))) (ix3 b o (pix y x))).trans rfl)
  · exact fun b cc p => (congrFun (V4_keep m ρ c main_call0_v3 (by decide) (by decide) (by decide)) _).trans (V1_x m ρ c hx b cc p)
  · exact fun b p => (congrFun (V4_keep m ρ c main_call0_v2 (by decide) (by decide) (by decide)) _).trans (V1_l m ρ c hl b p)
  · exact fun cc o => (congrFun (W4_args m ρ c main_arg2 (by decide)) _).trans (hw cc o)

end value

end Cert.KernelIdeal.Val

end
-- ==== Proof.ReferenceLabels.lean ====
/- The labels the reference works with. It resizes the label image to its own size before use, which changes nothing: the
   row and column it takes pixel `(y, x)` from are `y` and `x`. -/
module

public import proofs.«01_k».proof.Proof.Gen.ReferenceIdeal.Read
public import proofs.«01_k».proof.Proof.Coe
public import proofs.«01_k».proof.Proof.Pixels

@[expose] public section

set_option maxRecDepth 16384

noncomputable section

namespace Cert.ReferenceIdeal.Val

open Idealize.ShloMosaic Cert.ReferenceIdeal Cert.ReferenceIdeal.Read Cert.Coe

/-- The source row of each row. -/
theorem row_word : ∀ y : Fin 64, (val_main_v16 (F := Ideal) (ix2 y 0) : BitVec 32) = BitVec.ofNat 32 y := by decide +kernel
/-- The source column of each column. -/
theorem col_word : ∀ x : Fin 64, (val_main_v21 (F := Ideal) (ix2 0 x) : BitVec 32) = BitVec.ofNat 32 x := by decide +kernel

/-- The first coordinate a pixel is taken from is its row. -/
theorem start_row (y x : Fin 64) : (val_main_v26 (F := Ideal) (ix3 y x 0) : BitVec 32) = BitVec.ofNat 32 y := by
  pointwise [val_main_v26, val_main_v25, val_main_v24, val_main_v23, val_main_v22]
  exact row_word y
/-- The second coordinate a pixel is taken from is its column. -/
theorem start_col (y x : Fin 64) : (val_main_v26 (F := Ideal) (ix3 y x 1) : BitVec 32) = BitVec.ofNat 32 x := by
  pointwise [val_main_v26, val_main_v25, val_main_v24, val_main_v23, val_main_v22]
  exact col_word x
/-- A coordinate below 64 is not changed by clamping it to the image. -/
theorem clamp (y : Fin 64) : min (BitVec.ofNat 32 y).toInt.toNat 63 = y.val := by revert y; decide +kernel

variable (x1 : Vec Ideal S4x1x64x64 .i32)

/-- How the resize takes pixels: one pixel of every image per result pixel. -/
abbrev pick := gather_S4x1x64x64_S64x64x2_S4x1x64x64_01_23_n_n_23_2_4111

/-- The place the first coordinate of a pixel is read from. -/
theorem pick_row (b : Fin 4) (y x : Fin 64) (h) : pick.siIdx (ix4 b 0 y x) ⟨0, h⟩ = ix3 y x 0 := by
  funext b; refine Fin.ext ?_
  match b with
  | ⟨0, _⟩ => rfl
  | ⟨1, _⟩ => rfl
  | ⟨2, _⟩ => rfl
/-- The place the second coordinate of a pixel is read from. -/
theorem pick_col (b : Fin 4) (y x : Fin 64) (h) : pick.siIdx (ix4 b 0 y x) ⟨1, h⟩ = ix3 y x 1 := by
  funext b; refine Fin.ext ?_
  match b with
  | ⟨0, _⟩ => rfl
  | ⟨1, _⟩ => rfl
  | ⟨2, _⟩ => rfl

/-- The image a pixel is taken from starts at the first. -/
theorem start_0 (j : S4x1x64x64.Idx) (v : IVec S64x64x2 32) : pick.start j v (0 : Fin 4) = 0 := dif_neg (by decide)
/-- The one label plane starts at the first. -/
theorem start_1 (j : S4x1x64x64.Idx) (v : IVec S64x64x2 32) : pick.start j v (1 : Fin 4) = 0 := dif_neg (by decide)
/-- The row a pixel is taken from, clamped to the image. -/
theorem start_2 (b : Fin 4) (y x : Fin 64) (v : IVec S64x64x2 32) :
    pick.start (ix4 b 0 y x) v (2 : Fin 4) = min (v (ix3 y x 0)).toInt.toNat 63 :=
  (dif_pos (by decide)).trans (congrArg (fun i => min (v i).toInt.toNat 63) (pick_row b y x (by decide)))
/-- The column a pixel is taken from, clamped to the image. -/
theorem start_3 (b : Fin 4) (y x : Fin 64) (v : IVec S64x64x2 32) :
    pick.start (ix4 b 0 y x) v (3 : Fin 4) = min (v (ix3 y x 1)).toInt.toNat 63 :=
  (dif_pos (by decide)).trans (congrArg (fun i => min (v i).toInt.toNat 63) (pick_col b y x (by decide)))
/-- The row of a slice is its only one. -/
theorem off_2 (j : S4x1x64x64.Idx) : pick.offCoord j (2 : Fin 4) = 0 := dif_neg (by decide)
/-- The column of a slice is its only one. -/
theorem off_3 (j : S4x1x64x64.Idx) : pick.offCoord j (3 : Fin 4) = 0 := dif_neg (by decide)

/-- The resized label image is the label image. -/
theorem resized (b : Fin 4) (y x : Fin 64) : val_main_v27 (F := Ideal) x1 (ix4 b 0 y x) = x1 (ix4 b 0 y x) := by
  show x1 _ = _
  refine congrArg x1 (funext fun a => Fin.ext ?_)
  show pick.start (ix4 b 0 y x) (val_main_v26 (F := Ideal)) a + pick.batchCoord (ix4 b 0 y x) a + pick.offCoord (ix4 b 0 y x) a = _
  rw [GatherDims.batchCoord_eq_zero _ _ _ List.not_mem_nil, Nat.add_zero]
  match a with
  | ⟨0, _⟩ => exact (congrArg (· + _) (start_0 _ _)).trans ((Nat.zero_add _).trans rfl)
  | ⟨1, _⟩ => exact (congrArg (· + _) (start_1 _ _)).trans ((Nat.zero_add _).trans rfl)
  | ⟨2, _⟩ =>
    refine (congr (congrArg HAdd.hAdd (start_2 b y x _)) (off_2 _)).trans ?_
    exact (congrArg (fun k : BitVec 32 => min k.toInt.toNat 63) (start_row y x)).trans (clamp y)
  | ⟨3, _⟩ =>
    refine (congr (congrArg HAdd.hAdd (start_3 b y x _)) (off_3 _)).trans ?_
    exact (congrArg (fun k : BitVec 32 => min k.toInt.toNat 63) (start_col y x)).trans (clamp x)

variable {x1} {lab : Fin 4 → Fin 4096 → Fin 16}
  (hl : ∀ b y x, IntOp.subi (x1 (ix4 b 0 y x)) 1#32 = BitVec.ofNat 32 (lab b (Spec.pix y x)))

include hl in
/-- The reference's one-hot label image is the indicator of the class. -/
theorem onehot (b : Fin 4) (k : Fin 16) (y x : Fin 64) :
    val_main_v32 (F := Ideal) x1 (ix4 b k y x) = ((Spec.e lab b k (Spec.pix y x) : ℝ) : EReal) := by
  rw [show val_main_v32 (F := Ideal) x1 (ix4 b k y x) = FloatOps.uitofp (F := Ideal) .f32
      (IntOp.cmpi .eq (IntOp.subi (val_main_v27 (F := Ideal) x1 (ix4 b 0 y x)) 1#32) (BitVec.ofNat 32 k)) by
    pointwise [val_main_v32, val_main_v31, val_main_call2_v4, val_main_call2_v3, val_main_call2_v2, val_main_call2_v1,
      val_main_call2_v0, val_main_v30, val_main_v29, val_main_v28, val_main_c_7]]
  rw [resized, show IntOp.subi (x1 (ix4 b 0 y x)) 1#32 = BitVec.ofNat 32 (lab b (Spec.pix y x)) from hl b y x, eq_word_u]
  rfl

end Cert.ReferenceIdeal.Val

end
-- ==== Proof.ReferenceFeatures.lean ====
/- The feature map the reference computes, over the real numbers: given real images, weights and metric factor and labels among
   the sixteen classes, each array of the reference up to the feature map holds the quantity of `Spec` of the same name. -/
module

public import proofs.«01_k».proof.Proof.ReferenceLabels

@[expose] public section

set_option maxRecDepth 16384

noncomputable section

namespace Cert.ReferenceIdeal.Val

open Idealize.ShloMosaic Cert.ReferenceIdeal Cert.ReferenceIdeal.Read Cert.Coe
open Cert.Spec (pix)

variable {X : Fin 4 → Fin 128 → Fin 4096 → ℝ} {lab : Fin 4 → Fin 4096 → Fin 16} {w W : Fin 128 → Fin 128 → ℝ}
  {x0 : Vec Ideal S4x128x64x64 .f32} {x1 : Vec Ideal S4x1x64x64 .i32} {x2 x3 : Vec Ideal S128x128 .f32}
  (hx : ∀ b cc y x, x0 (ix4 b cc y x) = ((X b cc (pix y x) : ℝ) : EReal))
  (hl : ∀ b y x, IntOp.subi (x1 (ix4 b 0 y x)) 1#32 = BitVec.ofNat 32 (lab b (pix y x)))
  (hw : ∀ cc o, x2 (ix2 cc o) = ((w cc o : ℝ) : EReal))
  (hW : ∀ r cc, x3 (ix2 r cc) = ((W r cc : ℝ) : EReal))

/-- Adding the zero word changes nothing. -/
theorem add_zero_word (i : Fin 16) : IntOp.addi (BitVec.ofNat 32 i) 0#32 = BitVec.ofNat 32 i := BitVec.add_zero _

include hx hw in
/-- The projected features. -/
theorem proj_eq (b : Fin 4) (o : Fin 128) (y x : Fin 64) :
    val_main_v1 (F := Ideal) x0 x2 (ix4 b o y x) = ((Spec.x2 X w b o (pix y x) : ℝ) : EReal) := by
  rw [show val_main_v1 (F := Ideal) x0 x2 (ix4 b o y x) = ∑ c, x2 (ix2 c o) * x0 (ix4 b c y x) by
    pointwise [val_main_v1, val_main_v0]]
  simp only [hx, hw, ← EReal.coe_mul, ← coe_sum, Spec.x2]

include hl in
/-- The class counts. -/
theorem count_eq (b : Fin 4) (k : Fin 16) :
    val_main_v33 (F := Ideal) x1 (ix2 b k) = ((Spec.cnt lab b k : ℝ) : EReal) := by
  rw [show val_main_v33 (F := Ideal) x1 (ix2 b k) = ∑ y, ∑ x, val_main_v32 (F := Ideal) x1 (ix4 b k y x) by
    pointwise [val_main_v33, val_main_cst]]
  simp only [onehot hl, ← coe_sum, Spec.cnt]
  rw [Spec.sum_pix (Spec.e lab b k)]

include hx hl hw in
/-- The class sums. -/
theorem sums_eq (b : Fin 4) (k : Fin 16) (o : Fin 128) :
    val_main_v34 (F := Ideal) x0 x1 x2 (ix3 b k o) = ((Spec.sums X lab w b k o : ℝ) : EReal) := by
  rw [show val_main_v34 (F := Ideal) x0 x1 x2 (ix3 b k o)
      = ∑ y, ∑ x, val_main_v32 (F := Ideal) x1 (ix4 b k y x) * val_main_v1 (F := Ideal) x0 x2 (ix4 b o y x) by
    pointwise [val_main_v34]]
  simp only [onehot hl, proj_eq hx hw, ← EReal.coe_mul, ← coe_sum, Spec.sums]
  rw [Spec.sum_pix (fun p => Spec.e lab b k p * Spec.x2 X w b o p)]

include hx hl hw in
/-- The class means. -/
theorem mean_eq (b : Fin 4) (k : Fin 16) (o : Fin 128) :
    val_main_v41 (F := Ideal) x0 x1 x2 (ix3 b k o) = ((Spec.mean X lab w b k o : ℝ) : EReal) := by
  rw [show val_main_v41 (F := Ideal) x0 x1 x2 (ix3 b k o) = Ideal.div (val_main_v34 (F := Ideal) x0 x1 x2 (ix3 b k o))
      (val_main_v33 (F := Ideal) x1 (ix2 b k) + FloatOps.uitofp (F := Ideal) .f32
        (BitVec.ofBool (decide (val_main_v33 (F := Ideal) x1 (ix2 b k) = 0)))) by
    pointwise [val_main_v41, val_main_v40, val_main_v39, val_main_v38, val_main_v37, val_main_v36, val_main_v35, val_main_cst_8],
    sums_eq hx hl hw, count_eq hl, uitofp_ofBool, ← EReal.coe_add]
  rw [show Spec.cnt lab b k + (if decide (((Spec.cnt lab b k : ℝ) : EReal) = 0) = true then (1 : ℝ) else 0)
    = Spec.den lab b k by simp [Spec.den], div_coe (Spec.den_ne_zero lab b k)]
  rfl

include hx hl hw in
/-- The differences of class means. -/
theorem diff_eq (b : Fin 4) (i j : Fin 16) (o : Fin 128) : val_main_v46 (F := Ideal) x0 x1 x2 (ix4 b i j o)
    = ((Spec.mean X lab w b j o - Spec.mean X lab w b i o : ℝ) : EReal) := by
  rw [show val_main_v46 (F := Ideal) x0 x1 x2 (ix4 b i j o)
      = val_main_v41 (F := Ideal) x0 x1 x2 (ix3 b j o) - val_main_v41 (F := Ideal) x0 x1 x2 (ix3 b i o) by
    pointwise [val_main_v46, val_main_v45, val_main_v44, val_main_v43, val_main_v42]]
  simp only [mean_eq hx hl hw, ← EReal.coe_sub]

include hW in
/-- The metric. -/
theorem metric_eq (r s : Fin 128) : val_main_v48 (F := Ideal) x3 (ix2 r s) = ((Spec.metric W r s : ℝ) : EReal) := by
  rw [show val_main_v48 (F := Ideal) x3 (ix2 r s) = ∑ c, x3 (ix2 r c) * x3 (ix2 s c) by pointwise [val_main_v48, val_main_v47]]
  simp only [hW, ← EReal.coe_mul, ← coe_sum, Spec.metric]

include hx hl hw hW in
/-- The exponentials of the squared distances. -/
theorem expq_eq (b : Fin 4) (i j : Fin 16) : val_main_v55 (F := Ideal) x0 x1 x2 x3 (ix3 b i j)
    = ((Real.exp (-Spec.q X lab w W b i j) : ℝ) : EReal) := by
  rw [show val_main_v55 (F := Ideal) x0 x1 x2 x3 (ix3 b i j) = Ideal.exp (-∑ o, (∑ r, val_main_v46 (F := Ideal) x0 x1 x2 (ix4 b i j r)
      * val_main_v48 (F := Ideal) x3 (ix2 r o)) * val_main_v46 (F := Ideal) x0 x1 x2 (ix4 b i j o)) by
    pointwise [val_main_v55, val_main_v54, val_main_v53, val_main_v52, val_main_v51, val_main_v50, val_main_v49, val_main_cst_9]]
  simp only [diff_eq hx hl hw, metric_eq hW, ← EReal.coe_mul, ← coe_sum, ← EReal.coe_neg, exp_coe]
  rfl

include hx hl hw hW in
/-- The adjacency, with one added on the diagonal. -/
theorem adj_eq (b : Fin 4) (i j : Fin 16) : val_main_v64 (F := Ideal) x0 x1 x2 x3 (ix3 b i j)
    = ((Real.exp (-Spec.q X lab w W b i j) + (if i = j then 1 else 0) : ℝ) : EReal) := by
  rw [show val_main_v64 (F := Ideal) x0 x1 x2 x3 (ix3 b i j) = val_main_v55 (F := Ideal) x0 x1 x2 x3 (ix3 b i j)
      + FloatOps.uitofp (F := Ideal) .f32 (IntOp.cmpi .eq (IntOp.addi (BitVec.ofNat 32 i) 0#32) (BitVec.ofNat 32 j)) by
    pointwise [val_main_v64, val_main_v63, val_main_v62, val_main_v61, val_main_v60, val_main_v59, val_main_v58, val_main_v57,
      val_main_v56, val_main_c_10], expq_eq hx hl hw hW, add_zero_word, eq_word_u, ← EReal.coe_add]

/-- Off the diagonal the added one is absent, on it the weight is zero. -/
theorem weigh (i j : Fin 16) (a u : ℝ) :
    (1 - if i = j then (1 : ℝ) else 0) * (u * (a + if i = j then 1 else 0)) = a * Spec.off i j * u := by
  unfold Spec.off; by_cases h : i = j <;> simp [h, mul_comm]

include hx hl hw hW in
/-- The weighted means. -/
theorem adjm_eq (b : Fin 4) (i : Fin 16) (o : Fin 128) : val_main_v81 (F := Ideal) x0 x1 x2 x3 (ix3 b i o)
    = ((Spec.adjm X lab w W b i o : ℝ) : EReal) := by
  rw [show val_main_v81 (F := Ideal) x0 x1 x2 x3 (ix3 b i o) = ∑ j : Fin 16, (1 - FloatOps.uitofp (F := Ideal) .f32
      (IntOp.cmpi .eq (IntOp.addi (BitVec.ofNat 32 i) 0#32) (BitVec.ofNat 32 j)))
      * (val_main_v41 (F := Ideal) x0 x1 x2 (ix3 b j o) * val_main_v64 (F := Ideal) x0 x1 x2 x3 (ix3 b i j)) by
    pointwise [val_main_v81, val_main_v80, val_main_v79, val_main_v78, val_main_v77, val_main_v76, val_main_v75, val_main_v74,
      val_main_v73, val_main_v72, val_main_v71, val_main_v70, val_main_v69, val_main_v68, val_main_v67, val_main_v66, val_main_v65,
      val_main_cst_13, val_main_cst_12, val_main_c_11]]
  simp only [mean_eq hx hl hw, adj_eq hx hl hw hW, add_zero_word, eq_word_u, ← EReal.coe_one, ← EReal.coe_sub, ← EReal.coe_mul,
    ← coe_sum, weigh]
  rfl

include hx hl hw hW in
/-- The feature map: every pixel keeps its own class's term. -/
theorem feature_eq (b : Fin 4) (o : Fin 128) (y x : Fin 64) : val_main_v88 (F := Ideal) x0 x1 x2 x3 (ix4 b o y x)
    = ((Spec.f X lab w W b o (pix y x) : ℝ) : EReal) := by
  rw [show val_main_v88 (F := Ideal) x0 x1 x2 x3 (ix4 b o y x) = ∑ k, (val_main_v1 (F := Ideal) x0 x2 (ix4 b o y x)
      + val_main_v81 (F := Ideal) x0 x1 x2 x3 (ix3 b k o)) * val_main_v32 (F := Ideal) x1 (ix4 b k y x) by
    pointwise [val_main_v88, val_main_v87, val_main_v86, val_main_v85, val_main_v84, val_main_v83, val_main_v82]]
  simp only [proj_eq hx hw, adjm_eq hx hl hw hW, onehot hl, ← EReal.coe_add, ← EReal.coe_mul, ← coe_sum]
  rw [show ∑ k, (Spec.x2 X w b o (pix y x) + Spec.adjm X lab w W b k o) * Spec.e lab b k (pix y x) = Spec.f X lab w W b o (pix y x) from
    (Finset.sum_congr rfl fun k _ => mul_comm _ _).trans
      (Spec.sum_e_mul lab b (pix y x) fun k => Spec.x2 X w b o (pix y x) + Spec.adjm X lab w W b k o)]

end Cert.ReferenceIdeal.Val

end
-- ==== Proof.ReferenceValue.lean ====
/- What the reference returns, over the real numbers: the feature map normalised by its mean and variance, scaled, plus the
   bias. -/
module

public import proofs.«01_k».proof.Proof.ReferenceFeatures

@[expose] public section

set_option maxRecDepth 16384

noncomputable section

namespace Cert.ReferenceIdeal.Val

open Idealize.ShloMosaic Cert.ReferenceIdeal Cert.ReferenceIdeal.Read Cert.Coe
open Cert.Spec (pix)

variable {X : Fin 4 → Fin 128 → Fin 4096 → ℝ} {lab : Fin 4 → Fin 4096 → Fin 16} {w W : Fin 128 → Fin 128 → ℝ}
  {g : Fin 128 → ℝ} {x0 : Vec Ideal S4x128x64x64 .f32} {x1 : Vec Ideal S4x1x64x64 .i32} {x2 x3 : Vec Ideal S128x128 .f32}
  {x4 x5 : Vec Ideal S128 .f32}
  (hx : ∀ b cc y x, x0 (ix4 b cc y x) = ((X b cc (pix y x) : ℝ) : EReal))
  (hl : ∀ b y x, IntOp.subi (x1 (ix4 b 0 y x)) 1#32 = BitVec.ofNat 32 (lab b (pix y x)))
  (hw : ∀ cc o, x2 (ix2 cc o) = ((w cc o : ℝ) : EReal))
  (hW : ∀ r cc, x3 (ix2 r cc) = ((W r cc : ℝ) : EReal))
  (hg : ∀ o, x4 (ix1 o) = ((g o : ℝ) : EReal))

/-- The zero word converted is zero. -/
theorem sitofp_zero : FloatOps.sitofp (F := Ideal) .f32 (0#32) = ((0 : ℝ) : EReal) := by
  show (((0#32 : BitVec 32).toInt : ℝ) : EReal) = _
  simp

/-- The batch sum of an array of real numbers, by pixel. -/
theorem batch_sum (h : S4x128x64x64.ReducesTo [0, 2, 3] S128) (v : Vec Ideal S4x128x64x64 .f32)
    (u : Fin 4 → Fin 128 → Fin 4096 → ℝ) (hv : ∀ b o y x, v (ix4 b o y x) = ((u b o (pix y x) : ℝ) : EReal)) (o : Fin 128) :
    Ideal.hostReduceAdd h v 0 (ix1 o) = ((∑ b, ∑ p, u b o p : ℝ) : EReal) := by
  refine (hostReduceAdd_batch h v 0 o).trans ?_
  simp only [hv, ← coe_sum, zero_add]
  congr 1
  exact Finset.sum_congr rfl fun b _ => Spec.sum_pix (u b o)

include hx hl hw hW in
/-- The batch mean. -/
theorem mu_eq (o : Fin 128) : val_main_v91 (F := Ideal) x0 x1 x2 x3 (ix1 o) = ((Spec.mu X lab w W o : ℝ) : EReal) := by
  rw [show val_main_v91 (F := Ideal) x0 x1 x2 x3 (ix1 o) = Ideal.div (Ideal.hostReduceAdd Gen.reducesTo_S4x128x64x64_S128_d0_2_3
      (val_main_v88 (F := Ideal) x0 x1 x2 x3) 0 (ix1 o)) (Ideal.ofBits .f32 0x46800000#32) by
    pointwise [val_main_v91, val_main_v90, val_main_v89, val_main_cst_14, val_main_cst_15],
    batch_sum _ _ (Spec.f X lab w W) (feature_eq hx hl hw hW), ofBits_pixels, div_coe (by norm_num)]
  rfl

include hx hl hw hW in
/-- The squared deviations from the batch mean. -/
theorem dev_eq (b : Fin 4) (o : Fin 128) (y x : Fin 64) : val_main_call3_v6 (F := Ideal) x0 x1 x2 x3 (ix4 b o y x)
    = (((Spec.f X lab w W b o (pix y x) - Spec.mu X lab w W o) * (Spec.f X lab w W b o (pix y x) - Spec.mu X lab w W o) : ℝ) : EReal) := by
  rw [show val_main_call3_v6 (F := Ideal) x0 x1 x2 x3 (ix4 b o y x)
      = (val_main_v88 (F := Ideal) x0 x1 x2 x3 (ix4 b o y x) - val_main_v91 (F := Ideal) x0 x1 x2 x3 (ix1 o))
        * (val_main_v88 (F := Ideal) x0 x1 x2 x3 (ix4 b o y x) - val_main_v91 (F := Ideal) x0 x1 x2 x3 (ix1 o)) by
    pointwise [val_main_call3_v6, val_main_call3_v5, val_main_call3_v4, val_main_call3_v3, val_main_call3_v2, val_main_call3_v1,
      val_main_call3_v0, val_main_call3_cst, val_main_call3_cst_0, val_main_v91, val_main_v90, val_main_v89, val_main_cst_14,
      val_main_cst_15],
    mu_eq hx hl hw hW, feature_eq hx hl hw hW, ← EReal.coe_sub, ← EReal.coe_mul]

include hx hl hw hW in
/-- The batch variance: the number of pixels is positive, so the reference's guard picks the quotient. -/
theorem var_eq (o : Fin 128) : val_main_v92 (F := Ideal) x0 x1 x2 x3 (ix1 o) = ((Spec.var X lab w W o : ℝ) : EReal) := by
  rw [show val_main_v92 (F := Ideal) x0 x1 x2 x3 (ix1 o)
      = if 0 < Ideal.ofBits .f32 0x46800000#32 - FloatOps.sitofp (F := Ideal) .f32 (0#32) then
          Ideal.div (Ideal.hostReduceAdd Gen.reducesTo_S4x128x64x64_S128_d0_2_3 (val_main_call3_v6 (F := Ideal) x0 x1 x2 x3) 0 (ix1 o))
            (Ideal.ofBits .f32 0x46800000#32 - FloatOps.sitofp (F := Ideal) .f32 (0#32))
        else val_main_call3_call0_v1 (F := Ideal) (ix1 o) by
    pointwise [val_main_v92, val_main_call3_v12, val_main_call3_v11, val_main_call3_v10, val_main_call3_v9, val_main_call3_v8,
      val_main_call3_v7, val_main_call3_cst_1, val_main_call3_cst_2, val_main_call3_cst_3, val_main_c_16],
    ofBits_pixels, sitofp_zero, ← EReal.coe_sub, sub_zero, if_pos (by rw [← EReal.coe_zero, EReal.coe_lt_coe_iff]; norm_num),
    batch_sum _ _ (fun b o p => (Spec.f X lab w W b o p - Spec.mu X lab w W o) * (Spec.f X lab w W b o p - Spec.mu X lab w W o))
      (dev_eq hx hl hw hW), div_coe (by norm_num)]
  rfl

include hx hl hw hW hg in
/-- The reference's result: the normalised feature map plus the bias. -/
theorem result (b : Fin 4) (o : Fin 128) (y x : Fin 64) : val_main_v107 (F := Ideal) x0 x1 x2 x3 x4 x5 (ix4 b o y x)
    = ((Spec.normed X lab w W g b o (pix y x) : ℝ) : EReal) + x5 (ix1 o) := by
  rw [show val_main_v107 (F := Ideal) x0 x1 x2 x3 x4 x5 (ix4 b o y x)
      = Ideal.div (val_main_v88 (F := Ideal) x0 x1 x2 x3 (ix4 b o y x) - val_main_v91 (F := Ideal) x0 x1 x2 x3 (ix1 o))
          (Ideal.sqrt (val_main_v92 (F := Ideal) x0 x1 x2 x3 (ix1 o) + Ideal.ofBits .f32 0x3727C5AC#32)) * x4 (ix1 o) + x5 (ix1 o) by
    pointwise [val_main_v107, val_main_v106, val_main_v105, val_main_v104, val_main_v103, val_main_v102, val_main_v101,
      val_main_v100, val_main_v99, val_main_v98, val_main_v97, val_main_v96, val_main_v95, val_main_v94, val_main_v93,
      val_main_cst_17],
    feature_eq hx hl hw hW, mu_eq hx hl hw hW, var_eq hx hl hw hW, ofBits_eps, hg, ← EReal.coe_sub, ← EReal.coe_add,
    sqrt_coe (Spec.var_add_eps_pos X lab w W o), div_coe (Real.sqrt_pos.mpr (Spec.var_add_eps_pos X lab w W o)).ne', ← EReal.coe_mul]
  rfl

end Cert.ReferenceIdeal.Val

end
-- ==== Proof.Equation.lean ====
/- The equation: from equal arguments that meet the precondition, the kernel's result array is the reference's. -/
module

public import proofs.«01_k».proof.Proof.Precondition
public import proofs.«01_k».proof.Proof.KernelValue
public import proofs.«01_k».proof.Proof.ReferenceValue
public import proofs.«01_k».proof.Defs

@[expose] public section

set_option maxRecDepth 16384

noncomputable section

namespace Cert.Equation

open Idealize.ShloMosaic Cert.KernelIdeal Cert.KernelIdeal.Gen Cert.Spec Cert.Pre_finite_and_labelled.Val

variable (m : (ℓ : Loc nD τ sig) → Buf (Elt Ideal) ℓ) (ρ : Dev nD → PrngReg) (c : Dev nD)

/-- The kernel's result array is the reference's value of the same six arguments. -/
theorem result_eq (h : Cert.Pre_KernelIdeal_finite_and_labelled m) :
    W6 m ρ c (Proc.devRef .tc main_v0)
      = Cert.ReferenceIdeal.Read.val_main_v107 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  obtain ⟨h0, h1, h2, h3, h4⟩ := h c
  funext j
  obtain ⟨b, o, y, x, rfl⟩ : ∃ b o y x, j = ix4 b o y x := ⟨j 0, j 1, j 2, j 3, eq_ix4 j⟩
  let X : Fin 4 → Fin 128 → Fin 4096 → ℝ := fun b k p => (m ((c.tc : Thread nD τ).loc main_arg0) (ix4 b k (row p) (col p)) : EReal).toReal
  let lab : Fin 4 → Fin 4096 → Fin 16 := fun b p => classOf (m ((c.tc : Thread nD τ).loc main_arg1) (ix4 b 0 (row p) (col p)))
  let w : Fin 128 → Fin 128 → ℝ := fun r s => (m ((c.tc : Thread nD τ).loc main_arg2) (ix2 r s) : EReal).toReal
  let W : Fin 128 → Fin 128 → ℝ := fun r s => (m ((c.tc : Thread nD τ).loc main_arg3) (ix2 r s) : EReal).toReal
  let g : Fin 128 → ℝ := fun o => (m ((c.tc : Thread nD τ).loc main_arg4) (ix1 o) : EReal).toReal
  have hx : ∀ b k y x, m ((c.tc : Thread nD τ).loc main_arg0) (ix4 b k y x) = ((X b k (pix y x) : ℝ) : EReal) := by
    intro b k y x
    simp only [X, row_pix, col_pix]
    exact images h0 b k y x
  have hl : ∀ b y x, IntOp.subi (m ((c.tc : Thread nD τ).loc main_arg1) (ix4 b 0 y x)) 1#32 = BitVec.ofNat 32 (lab b (pix y x)) := by
    intro b y x
    simp only [lab, row_pix, col_pix]
    exact labels h1 b y x
  have hw : ∀ r s, m ((c.tc : Thread nD τ).loc main_arg2) (ix2 r s) = ((w r s : ℝ) : EReal) := weight h2
  have hW : ∀ r s, m ((c.tc : Thread nD τ).loc main_arg3) (ix2 r s) = ((W r s : ℝ) : EReal) := factor h3
  have hg : ∀ o, m ((c.tc : Thread nD τ).loc main_arg4) (ix1 o) = ((g o : ℝ) : EReal) := gamma h4
  exact (Cert.KernelIdeal.Val.result m ρ c (bet := fun o => m ((c.tc : Thread nD τ).loc main_arg5) (ix1 o)) hx hl hw hW hg (fun _ => rfl) b o y x).trans
    (Cert.ReferenceIdeal.Val.result hx hl hw hW hg b o y x).symm

/-- The reference's value of arguments equal to the kernel's is the kernel's result array. -/
theorem value_eq (h : Cert.Pre_KernelIdeal_finite_and_labelled m)
    {x0 : Vec Ideal Cert.ReferenceIdeal.S4x128x64x64 .f32} {x1 : Vec Ideal Cert.ReferenceIdeal.S4x1x64x64 .i32}
    {x2 x3 : Vec Ideal Cert.ReferenceIdeal.S128x128 .f32} {x4 x5 : Vec Ideal Cert.ReferenceIdeal.S128 .f32}
    (e0 : x0 = m ((c.tc : Thread nD τ).loc main_arg0)) (e1 : x1 = m ((c.tc : Thread nD τ).loc main_arg1))
    (e2 : x2 = m ((c.tc : Thread nD τ).loc main_arg2)) (e3 : x3 = m ((c.tc : Thread nD τ).loc main_arg3))
    (e4 : x4 = m ((c.tc : Thread nD τ).loc main_arg4)) (e5 : x5 = m ((c.tc : Thread nD τ).loc main_arg5)) :
    Cert.ReferenceIdeal.Read.val_main_v107 (F := Ideal) x0 x1 x2 x3 x4 x5 = W6 m ρ c (Proc.devRef .tc main_v0) := by
  rw [e0, e1, e2, e3, e4, e5]
  exact (result_eq m ρ c h).symm

end Cert.Equation

end
-- ==== Proof.lean ====
/- The claims, assembled: the three frames, that nothing was rewritten, and that kernel and reference end with equal
   results. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_labelled
public import proofs.«01_k».proof.Proof.KernelRun
public import proofs.«01_k».proof.Proof.Equation
public import Idealize.ShloMosaic.Lib.Quiescent
public import Idealize.ShloMosaic.Init

@[expose] public section

noncomputable section

namespace Cert.Proof

open Idealize.ShloMosaic Idealize.SL.Sem

/-- The kernel as written runs, leaves its arguments as they were and ends quiescent. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- The same from memories that meet the precondition. -/
theorem frame_ideal_pre : Cert.quiescent_KernelIdeal_pre_finite_and_labelled := fun m ρ _ => Cert.KernelIdeal.Gen.frame m ρ

/-- The reference runs, leaves its arguments as they were and ends quiescent. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same from memories that meet the precondition. -/
theorem frame_reference_pre : Cert.quiescent_ReferenceIdeal_pre_finite_and_labelled := fun m ρ _ =>
  frame_reference m ρ trivial

/-- The kernel over the extended reals is the kernel as written: no operation was replaced. -/
theorem preserves : Cert.preserves_Kernel_KernelIdeal := trivial

/-- From equal arguments that meet the precondition the kernel and the reference both run and end with equal results. -/
theorem algebraic : Cert.algebraic_KernelIdeal_ReferenceIdeal_pre_finite_and_labelled := by
  intro m g m' g' hpre hargs
  refine ⟨fun c => Cert.KernelIdeal.Gen.W6 m g c (Proc.devRef .tc Cert.KernelIdeal.main_v0), Cert.KernelIdeal.Val.run m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5⟩ := hargs c
  exact (Cert.ReferenceIdeal.Read.val_main_v107_eq (StableHlo.launchContents m' c)).trans
    (Cert.Equation.value_eq m g c hpre e0 e1 e2 e3 e4 e5)

/-- Everything claimed. -/
theorem claim : Cert.Claim :=
  ⟨Cert.Kernel.Gen.facts, Cert.KernelIdeal.Gen.facts, Cert.ReferenceIdeal.Gen.facts, Cert.Pre_finite_and_labelled.Gen.facts,
    frame_kernel, frame_ideal, frame_ideal_pre, frame_reference, frame_reference_pre, preserves, algebraic⟩

end Cert.Proof

end
